-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_parents_in_range [hPre_parents_in_range : Cert.Pre_parents_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_parents_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parents_in_range [hPre_parents_in_range : Cert.Pre_parents_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parents_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_parents_in_range [hKernelIdeal : Cert.KernelIdeal.Facts] [hPre_parents_in_range : Cert.Pre_parents_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_parents_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_parents_in_range [hReferenceIdeal : Cert.ReferenceIdeal.Facts] [hPre_parents_in_range : Cert.Pre_parents_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parents_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_parents_in_range [hKernelIdeal : Cert.KernelIdeal.Facts] [hReferenceIdeal : Cert.ReferenceIdeal.Facts] [hPre_parents_in_range : Cert.Pre_parents_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_parents_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_parents_in_range : Cert.Pre_parents_in_range.Facts),
    quiescent_Kernel (hKernel := hKernel)
    ∧ quiescent_KernelIdeal (hKernelIdeal := hKernelIdeal)
    ∧ quiescent_KernelIdeal_pre_parents_in_range (hKernelIdeal := hKernelIdeal) (hPre_parents_in_range := hPre_parents_in_range)
    ∧ quiescent_ReferenceIdeal (hReferenceIdeal := hReferenceIdeal)
    ∧ quiescent_ReferenceIdeal_pre_parents_in_range (hReferenceIdeal := hReferenceIdeal) (hPre_parents_in_range := hPre_parents_in_range)
    ∧ preserves_Kernel_KernelIdeal
    ∧ algebraic_KernelIdeal_ReferenceIdeal_pre_parents_in_range (hKernelIdeal := hKernelIdeal) (hReferenceIdeal := hReferenceIdeal) (hPre_parents_in_range := hPre_parents_in_range)
-- ==== Pre_parents_in_range.lean ====
abbrev S8x512 : Shape := ⟨2, ![8, 512]⟩
abbrev S16x8 : Shape := ⟨2, ![16, 8]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel

variable [Facts]

def fn {F : FTy → Type} [FloatOps F] (main_arg0 : IVec S8x512 32) (main_arg1 : IVec S8x512 1) (main_arg2 : FVec F S16x8 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 512#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  main_v5
-- ==== Kernel.lean ====
abbrev S8x512 : Shape := ⟨2, ![8, 512]⟩
abbrev S16x8 : Shape := ⟨2, ![16, 8]⟩
abbrev S8x1x512 : Shape := ⟨3, ![8, 1, 512]⟩
abbrev S8x512x1 : Shape := ⟨3, ![8, 512, 1]⟩
abbrev S8x16x512x512 : Shape := ⟨4, ![8, 16, 512, 512]⟩
abbrev S1x1x512 : Shape := ⟨3, ![1, 1, 512]⟩
abbrev S1x512x1 : Shape := ⟨3, ![1, 512, 1]⟩
abbrev S1x16x64x512 : Shape := ⟨4, ![1, 16, 64, 512]⟩
abbrev S512x8 : Shape := ⟨2, ![512, 8]⟩
abbrev S1x512 : Shape := ⟨2, ![1, 512]⟩
abbrev S512x1 : Shape := ⟨2, ![512, 1]⟩
abbrev S512x512 : Shape := ⟨2, ![512, 512]⟩
abbrev S64x1 : Shape := ⟨2, ![64, 1]⟩
abbrev S64x512 : Shape := ⟨2, ![64, 512]⟩
abbrev S1x64x1 : Shape := ⟨3, ![1, 64, 1]⟩
abbrev S1x1 : Shape := ⟨2, ![1, 1]⟩
abbrev S1x1x64x512 : Shape := ⟨4, ![1, 1, 64, 512]⟩

abbrev nBuf : Space → Nat
  | .hbm => 10
  | .vmem => 12
  | .smem => 1
  | _ => 0

abbrev bufTy : (tb : Table) → Fin (tcTables nBuf tb) → BufTy
  | .hbm, ⟨0, _⟩ => ⟨S8x512, .i32⟩
  | .hbm, ⟨1, _⟩ => ⟨S8x512, .i1⟩
  | .hbm, ⟨2, _⟩ => ⟨S16x8, .f32⟩
  | .hbm, ⟨3, _⟩ => ⟨S8x1x512, .i32⟩
  | .hbm, ⟨4, _⟩ => ⟨S8x512x1, .i32⟩
  | .hbm, ⟨5, _⟩ => ⟨S8x512, .f32⟩
  | .hbm, ⟨6, _⟩ => ⟨S8x1x512, .f32⟩
  | .hbm, ⟨7, _⟩ => ⟨S8x512, .f32⟩
  | .hbm, ⟨8, _⟩ => ⟨S8x512x1, .f32⟩
  | .hbm, ⟨9, _⟩ => ⟨S8x16x512x512, .f32⟩
  | .local _ .vmem, ⟨0, _⟩ => ⟨S1x1x512, .i32⟩
  | .local _ .vmem, ⟨1, _⟩ => ⟨S1x1x512, .i32⟩
  | .local _ .vmem, ⟨2, _⟩ => ⟨S1x512x1, .i32⟩
  | .local _ .vmem, ⟨3, _⟩ => ⟨S1x512x1, .i32⟩
  | .local _ .vmem, ⟨4, _⟩ => ⟨S1x1x512, .f32⟩
  | .local _ .vmem, ⟨5, _⟩ => ⟨S1x1x512, .f32⟩
  | .local _ .vmem, ⟨6, _⟩ => ⟨S1x512x1, .f32⟩
  | .local _ .vmem, ⟨7, _⟩ => ⟨S1x512x1, .f32⟩
  | .local _ .vmem, ⟨8, _⟩ => ⟨S1x16x64x512, .f32⟩
  | .local _ .vmem, ⟨9, _⟩ => ⟨S1x16x64x512, .f32⟩
  | .local _ .vmem, ⟨10, _⟩ => ⟨S8x512, .i32⟩
  | .local _ .vmem, ⟨11, _⟩ => ⟨S512x8, .i32⟩
  | .local _ .smem, ⟨0, _⟩ => ⟨S16x8, .f32⟩
  | _, _ => ⟨S8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c64_i32 : BitVec 32 := 64#32
  let v3 : BitVec 32 := Scalar.muli arg1 c64_i32
  let v8 : Index := Scalar.indexCast v3
  let c1 : Index := 1#32
  ![v8.toNat, 1]
def k0_off2 (i : grid0.Coords) : Fin 2 → Nat :=
  let arg1 : BitVec 32 := BitVec.ofNat 32 (i 1).val
  let c64_i32 : BitVec 32 := 64#32
  let v3 : BitVec 32 := Scalar.muli arg1 c64_i32
  let v10 : Index := Scalar.indexCast v3
  let c2 : Index := 2#32
  ![v10.toNat, 2]
def k0_off3 (i : grid0.Coords) : Fin 2 → Nat :=
  let arg1 : BitVec 32 := BitVec.ofNat 32 (i 1).val
  let c64_i32 : BitVec 32 := 64#32
  let v3 : BitVec 32 := Scalar.muli arg1 c64_i32
  let v12 : Index := Scalar.indexCast v3
  let c3 : Index := 3#32
  ![v12.toNat, 3]
def k0_off4 (i : grid0.Coords) : Fin 2 → Nat :=
  let arg1 : BitVec 32 := BitVec.ofNat 32 (i 1).val
  let c64_i32 : BitVec 32 := 64#32
  let v3 : BitVec 32 := Scalar.muli arg1 c64_i32
  let v14 : Index := Scalar.indexCast v3
  let c4 : Index := 4#32
  ![v14.toNat, 4]
def k0_off5 (i : grid0.Coords) : Fin 2 → Nat :=
  let arg1 : BitVec 32 := BitVec.ofNat 32 (i 1).val
  let c64_i32 : BitVec 32 := 64#32
  let v3 : BitVec 32 := Scalar.muli arg1 c64_i32
  let v16 : Index := Scalar.indexCast v3
  let c5 : Index := 5#32
  ![v16.toNat, 5]
def k0_off6 (i : grid0.Coords) : Fin 2 → Nat :=
  let arg1 : BitVec 32 := BitVec.ofNat 32 (i 1).val
  let c64_i32 : BitVec 32 := 64#32
  let v3 : BitVec 32 := Scalar.muli arg1 c64_i32
  let v18 : Index := Scalar.indexCast v3
  let c6 : Index := 6#32
  ![v18.toNat, 6]
def k0_off7 (i : grid0.Coords) : Fin 3 → Nat :=
  let c0_40 : Index := 0#32
  let arg1 : BitVec 32 := BitVec.ofNat 32 (i 1).val
  let c64_i32 : BitVec 32 := 64#32
  let v3 : BitVec 32 := Scalar.muli arg1 c64_i32
  let v179 : Index := Scalar.indexCast v3
  let c0_41 : Index := 0#32
  ![0, v179.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x512 : Shape := ⟨2, ![8, 512]⟩
abbrev S16x8 : Shape := ⟨2, ![16, 8]⟩
abbrev S_ : Shape := ⟨0, ![]⟩
abbrev S8x512x512 : Shape := ⟨3, ![8, 512, 512]⟩
abbrev S8 : Shape := ⟨1, ![8]⟩
abbrev S8x1 : Shape := ⟨2, ![8, 1]⟩
abbrev S512 : Shape := ⟨1, ![512]⟩
abbrev S1x512 : Shape := ⟨2, ![1, 512]⟩
abbrev S8x512x1 : Shape := ⟨3, ![8, 512, 1]⟩
abbrev S8x512x3 : Shape := ⟨3, ![8, 512, 3]⟩
abbrev S512x512 : Shape := ⟨2, ![512, 512]⟩
abbrev S1x512x512 : Shape := ⟨3, ![1, 512, 512]⟩
abbrev S8x512x512x1 : Shape := ⟨4, ![8, 512, 512, 1]⟩
abbrev S16x8x512x512 : Shape := ⟨4, ![16, 8, 512, 512]⟩
abbrev S8x16x512x512 : Shape := ⟨4, ![8, 16, 512, 512]⟩
abbrev S8x1x1x512 : Shape := ⟨4, ![8, 1, 1, 512]⟩
abbrev S8x1x512x1 : Shape := ⟨4, ![8, 1, 512, 1]⟩

abbrev nBuf : Space → Nat
  | .hbm => 188
  | .vmem => 0
  | .smem => 0
  | _ => 0

abbrev hbmTy0_0 (i : Nat) : BufTy := match i % 128 with
  | 0 => ⟨S8x512, .i32⟩
  | 1 => ⟨S8x512, .i1⟩
  | 2 => ⟨S16x8, .f32⟩
  | 3 => ⟨S_, .i32⟩
  | 4 => ⟨S8x512, .i32⟩
  | 5 => ⟨S8x512, .i1⟩
  | 6 => ⟨S_, .i32⟩
  | 7 => ⟨S8x512, .i32⟩
  | 8 => ⟨S8x512, .i1⟩
  | 9 => ⟨S8x512, .i1⟩
  | 10 => ⟨S_, .i32⟩
  | 11 => ⟨S_, .i32⟩
  | 12 => ⟨S_, .i32⟩
  | 13 => ⟨S8x512, .i32⟩
  | 14 => ⟨S8x512, .i32⟩
  | 15 => ⟨S_, .i32⟩
  | 16 => ⟨S8x512, .i32⟩
  | 17 => ⟨S8x512, .i32⟩
  | 18 => ⟨S_, .i1⟩
  | 19 => ⟨S8x512x512, .i1⟩
  | 20 => ⟨S8, .i32⟩
  | 21 => ⟨S8x1, .i32⟩
  | 22 => ⟨S512, .i32⟩
  | 23 => ⟨S1x512, .i32⟩
  | 24 => ⟨S_, .i32⟩
  | 25 => ⟨S8x1, .i32⟩
  | 26 => ⟨S8x1, .i1⟩
  | 27 => ⟨S_, .i32⟩
  | 28 => ⟨S8x1, .i32⟩
  | 29 => ⟨S8x1, .i32⟩
  | 30 => ⟨S8x1, .i32⟩
  | 31 => ⟨S_, .i32⟩
  | 32 => ⟨S1x512, .i32⟩
  | 33 => ⟨S1x512, .i1⟩
  | 34 => ⟨S_, .i32⟩
  | 35 => ⟨S1x512, .i32⟩
  | 36 => ⟨S1x512, .i32⟩
  | 37 => ⟨S1x512, .i32⟩
  | 38 => ⟨S_, .i32⟩
  | 39 => ⟨S8x512, .i32⟩
  | 40 => ⟨S8x512, .i1⟩
  | 41 => ⟨S_, .i32⟩
  | 42 => ⟨S8x512, .i32⟩
  | 43 => ⟨S8x512, .i32⟩
  | 44 => ⟨S8x512, .i32⟩
  | 45 => ⟨S8x512, .i32⟩
  | 46 => ⟨S8x512, .i32⟩
  | 47 => ⟨S8x512x1, .i32⟩
  | 48 => ⟨S8x512x1, .i32⟩
  | 49 => ⟨S8x512x1, .i32⟩
  | 50 => ⟨S8x512x3, .i32⟩
  | 51 => ⟨S8x512x512, .i1⟩
  | 52 => ⟨S8x512x512, .i1⟩
  | 53 => ⟨S8x512x512, .i1⟩
  | 54 => ⟨S512x512, .i32⟩
  | 55 => ⟨S512x512, .i32⟩
  | 56 => ⟨S_, .i32⟩
  | 57 => ⟨S512x512, .i32⟩
  | 58 => ⟨S512x512, .i32⟩
  | 59 => ⟨S512x512, .i1⟩
  | 60 => ⟨S512x512, .i1⟩
  | 61 => ⟨S1x512x512, .i1⟩
  | 62 => ⟨S8x512x512, .i1⟩
  | 63 => ⟨S8x512x512, .i1⟩
  | 64 => ⟨S_, .i32⟩
  | 65 => ⟨S_, .i32⟩
  | 66 => ⟨S8x512x512, .i32⟩
  | 67 => ⟨S8x512x512, .i32⟩
  | 68 => ⟨S8x512x512, .i32⟩
  | 69 => ⟨S_, .i32⟩
  | 70 => ⟨S8x512x512, .i1⟩
  | 71 => ⟨S8x512x512, .i32⟩
  | 72 => ⟨S8x512x512, .i32⟩
  | 73 => ⟨S8x512x512, .i32⟩
  | 74 => ⟨S1x512x512, .i1⟩
  | 75 => ⟨S8x512x512, .i1⟩
  | 76 => ⟨S8x512x512, .i1⟩
  | 77 => ⟨S8x512x512, .f32⟩
  | 78 => ⟨S8x512x512, .f32⟩
  | 79 => ⟨S8x512x512, .f32⟩
  | 80 => ⟨S_, .f32⟩
  | 81 => ⟨S8x512x512, .f32⟩
  | 82 => ⟨S8x512x512, .i1⟩
  | 83 => ⟨S8x512x512, .i1⟩
  | 84 => ⟨S8x512x512, .i1⟩
  | 85 => ⟨S8x512x512, .i1⟩
  | 86 => ⟨S_, .i32⟩
  | 87 => ⟨S_, .i32⟩
  | 88 => ⟨S8x512x512, .i32⟩
  | 89 => ⟨S8x512x512, .i32⟩
  | 90 => ⟨S8x512x512, .f32⟩
  | 91 => ⟨S8x512x512, .f32⟩
  | 92 => ⟨S_, .f32⟩
  | 93 => ⟨S8x512x512, .f32⟩
  | 94 => ⟨S8x512x512, .i1⟩
  | 95 => ⟨S8x512x512, .i1⟩
  | 96 => ⟨S8x512x512, .i1⟩
  | 97 => ⟨S8x512x512, .i1⟩
  | 98 => ⟨S_, .i32⟩
  | 99 => ⟨S_, .i32⟩
  | 100 => ⟨S8x512x512, .i32⟩
  | 101 => ⟨S8x512x512, .i32⟩
  | 102 => ⟨S8x512x512, .f32⟩
  | 103 => ⟨S8x512x512, .f32⟩
  | 104 => ⟨S_, .f32⟩
  | 105 => ⟨S8x512x512, .f32⟩
  | 106 => ⟨S8x512x512, .i1⟩
  | 107 => ⟨S8x512x512, .i1⟩
  | 108 => ⟨S8x512x512, .i1⟩
  | 109 => ⟨S8x512x512, .i1⟩
  | 110 => ⟨S_, .i32⟩
  | 111 => ⟨S_, .i32⟩
  | 112 => ⟨S8x512x512, .i32⟩
  | 113 => ⟨S8x512x512, .i32⟩
  | 114 => ⟨S8x512x512, .f32⟩
  | 115 => ⟨S8x512x512, .f32⟩
  | 116 => ⟨S_, .f32⟩
  | 117 => ⟨S8x512x512, .f32⟩
  | 118 => ⟨S8x512x512, .i1⟩
  | 119 => ⟨S8x512x512, .i1⟩
  | 120 => ⟨S8x512x512, .i1⟩
  | 121 => ⟨S8x512x512, .i1⟩
  | 122 => ⟨S_, .i32⟩
  | 123 => ⟨S_, .i32⟩
  | 124 => ⟨S8x512x512, .i32⟩
  | 125 => ⟨S8x512x512, .i32⟩
  | 126 => ⟨S8x512x512, .f32⟩
  | 127 => ⟨S8x512x512, .f32⟩
  | _ => ⟨S8x512, .i32⟩

abbrev hbmTy0_1 (i : Nat) : BufTy := match i % 128 with
  | 0 => ⟨S_, .f32⟩
  | 1 => ⟨S8x512x512, .f32⟩
  | 2 => ⟨S8x512x512, .i1⟩
  | 3 => ⟨S8x512x512, .i1⟩
  | 4 => ⟨S8x512x512, .i1⟩
  | 5 => ⟨S8x512x512, .i1⟩
  | 6 => ⟨S_, .i32⟩
  | 7 => ⟨S_, .i32⟩
  | 8 => ⟨S8x512x512, .i32⟩
  | 9 => ⟨S8x512x512, .i32⟩
  | 10 => ⟨S8x512x512, .f32⟩
  | 11 => ⟨S8x512x512, .f32⟩
  | 12 => ⟨S_, .f32⟩
  | 13 => ⟨S8x512x512, .f32⟩
  | 14 => ⟨S8x512x512, .i1⟩
  | 15 => ⟨S8x512x512, .i1⟩
  | 16 => ⟨S8x512x512, .i1⟩
  | 17 => ⟨S8x512x512, .i1⟩
  | 18 => ⟨S_, .i32⟩
  | 19 => ⟨S_, .i32⟩
  | 20 => ⟨S8x512x512, .i32⟩
  | 21 => ⟨S8x512x512, .i32⟩
  | 22 => ⟨S8x512x512, .f32⟩
  | 23 => ⟨S8x512x512, .f32⟩
  | 24 => ⟨S_, .f32⟩
  | 25 => ⟨S8x512x512, .f32⟩
  | 26 => ⟨S8x512x512, .i1⟩
  | 27 => ⟨S8x512x512, .i1⟩
  | 28 => ⟨S8x512x512, .i1⟩
  | 29 => ⟨S8x512x512, .i1⟩
  | 30 => ⟨S_, .i32⟩
  | 31 => ⟨S_, .i32⟩
  | 32 => ⟨S8x512x512, .i32⟩
  | 33 => ⟨S8x512x512, .i32⟩
  | 34 => ⟨S_, .i32⟩
  | 35 => ⟨S8x512x512, .i32⟩
  | 36 => ⟨S8x512x512, .i32⟩
  | 37 => ⟨S_, .i32⟩
  | 38 => ⟨S8x512x512, .i32⟩
  | 39 => ⟨S8x512x512, .i32⟩
  | 40 => ⟨S_, .i32⟩
  | 41 => ⟨S8x512x512, .i32⟩
  | 42 => ⟨S8x512x512, .i1⟩
  | 43 => ⟨S_, .i32⟩
  | 44 => ⟨S8x512x512, .i32⟩
  | 45 => ⟨S8x512x512, .i32⟩
  | 46 => ⟨S8x512x512, .i32⟩
  | 47 => ⟨S8x512x512x1, .i32⟩
  | 48 => ⟨S16x8x512x512, .f32⟩
  | 49 => ⟨S8x16x512x512, .f32⟩
  | 50 => ⟨S8x1x1x512, .i1⟩
  | 51 => ⟨S_, .f32⟩
  | 52 => ⟨S8x16x512x512, .i1⟩
  | 53 => ⟨S8x16x512x512, .f32⟩
  | 54 => ⟨S8x16x512x512, .f32⟩
  | 55 => ⟨S8x1x512x1, .i1⟩
  | 56 => ⟨S_, .f32⟩
  | 57 => ⟨S8x16x512x512, .i1⟩
  | 58 => ⟨S8x16x512x512, .f32⟩
  | 59 => ⟨S8x16x512x512, .f32⟩
  | _ => ⟨S8x512, .i32⟩

abbrev hbmTy (i : Nat) : BufTy := match i / 128 with
  | 0 => hbmTy0_0 i
  | 1 => hbmTy0_1 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_8 : Ref sig .tc := ⟨.hbm, 38, rfl⟩
abbrev main_v21 : Ref sig .tc := ⟨.hbm, 39, rfl⟩
abbrev main_v22 : Ref sig .tc := ⟨.hbm, 40, rfl⟩
abbrev main_c_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_c_12 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_c_13 : Ref sig .tc := ⟨.hbm, 69, rfl⟩
abbrev main_call2_v0 : Ref sig .tc := ⟨.hbm, 70, rfl⟩
abbrev main_call2_v1 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_call3_v0 : Ref sig .tc := ⟨.hbm, 87, rfl⟩
abbrev main_call3_v1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_call4_v0 : Ref sig .tc := ⟨.hbm, 99, rfl⟩
abbrev main_call4_v1 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_call5_v0 : Ref sig .tc := ⟨.hbm, 111, rfl⟩
abbrev main_call5_v1 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_20 : Ref sig .tc := ⟨.hbm, 122, rfl⟩
abbrev main_call6_v0 : Ref sig .tc := ⟨.hbm, 123, rfl⟩
abbrev main_call6_v1 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_22 : Ref sig .tc := ⟨.hbm, 134, rfl⟩
abbrev main_call7_v0 : Ref sig .tc := ⟨.hbm, 135, rfl⟩
abbrev main_call7_v1 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_24 : Ref sig .tc := ⟨.hbm, 146, rfl⟩
abbrev main_call8_v0 : Ref sig .tc := ⟨.hbm, 147, rfl⟩
abbrev main_call8_v1 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_25 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_26 : Ref sig .tc := ⟨.hbm, 158, rfl⟩
abbrev main_call9_v0 : Ref sig .tc := ⟨.hbm, 159, rfl⟩
abbrev main_call9_v1 : Ref sig .tc := ⟨.hbm, 160, rfl⟩
abbrev main_v106 : Ref sig .tc := ⟨.hbm, 161, rfl⟩
abbrev main_c_27 : Ref sig .tc := ⟨.hbm, 162, rfl⟩
abbrev main_v107 : Ref sig .tc := ⟨.hbm, 163, rfl⟩
abbrev main_v108 : Ref sig .tc := ⟨.hbm, 164, rfl⟩
abbrev main_c_28 : Ref sig .tc := ⟨.hbm, 165, rfl⟩
abbrev main_v109 : Ref sig .tc := ⟨.hbm, 166, rfl⟩
abbrev main_v110 : Ref sig .tc := ⟨.hbm, 167, rfl⟩
abbrev main_c_29 : Ref sig .tc := ⟨.hbm, 168, rfl⟩
abbrev main_v111 : Ref sig .tc := ⟨.hbm, 169, rfl⟩
abbrev main_v112 : Ref sig .tc := ⟨.hbm, 170, rfl⟩
abbrev main_c_30 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_31 : Ref sig .tc := ⟨.hbm, 179, rfl⟩
abbrev main_call10_v0 : Ref sig .tc := ⟨.hbm, 180, rfl⟩
abbrev main_call10_v1 : Ref sig .tc := ⟨.hbm, 181, rfl⟩
abbrev main_v120 : Ref sig .tc := ⟨.hbm, 182, rfl⟩
abbrev main_v121 : Ref sig .tc := ⟨.hbm, 183, rfl⟩
abbrev main_cst_32 : Ref sig .tc := ⟨.hbm, 184, rfl⟩
abbrev main_call11_v0 : Ref sig .tc := ⟨.hbm, 185, rfl⟩
abbrev main_call11_v1 : Ref sig .tc := ⟨.hbm, 186, rfl⟩
abbrev main_v122 : Ref sig .tc := ⟨.hbm, 187, rfl⟩

abbrev nD : Nat := 1
abbrev τ : Topo := Topo.v7x

variable {F : FTy → Type} [FloatOps F]
-- ==== Proof.Body.lean ====
/- The kernel body of `KernelIdeal` at a tile that is not a batch's first: it reads the two scratch tables and
   writes the output window's buffer. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Bias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The writes a run leaves in a buffer of shape `s`, the last one first. -/
abbrev Writes (F : FTy → Type) (s : Shape) (e : EltTy) := List (View.Piece (Elt F) s e)

/-- The body's one branch is taken: the tile coordinate of the point is zero. -/
abbrev firstTile (i : grid0.Coords) : Prop :=
  (Scalar.cmpi .ne (Scalar.extui (Scalar.cmpi .eq (BitVec.ofNat 32 (i 1).val) 0#32)) 0#32) = 1#1

/-- It is taken exactly at the points whose number is a multiple of eight. -/
theorem firstTile_iff (t : Fin cfg0.N) : firstTile (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [firstTile, e1]
  word_cmp

section Runs

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

set_option maxHeartbeats 1144000 in
/-- THE BODY AT A LATER TILE (the branch not taken): from whole buffers holding the five inputs and the two tables,
    it runs to the end with all of them as they were and the writes found here made
    in the output buffer. -/
def runLater (hc0 : ¬ firstTile i) :
    {L : Writes F S1x16x64x512 .f32 // ∀ (E : Set ℕ) (K : PUnit → sProp 𝕄),
          iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ (∃ d, owns (c : Thread nD τ) arg7 fullShare d)
              ∗ owns (c : Thread nD τ) arg8 fullShare s0 ∗ owns (c : Thread nD τ) arg9 fullShare s1
              ∗ (iprop(owns (c : Thread nD τ) arg2 fullShare x0 ∗ owns (c : Thread nD τ) arg3 fullShare x1
                  ∗ owns (c : Thread nD τ) arg4 fullShare x2 ∗ owns (c : Thread nD τ) arg5 fullShare x3
                  ∗ owns (c : Thread nD τ) arg6 fullShare x4 ∗ (∃ f, View.loc (c : Thread nD τ) arg7.view ↦[arg7.view.set]{fullShare} arg7.view.writes (Elt F) f L)
                  ∗ owns (c : Thread nD τ) arg8 fullShare s0 ∗ owns (c : Thread nD τ) arg9 fullShare s1) -∗ K ⟨⟩))
            ⊢ wp frame (wpE (defs₀ (F := F)) Variants.none c none) E
                (cc0__bias_kernel i arg2 harg2 arg3 harg3 arg4 harg4 arg5 harg5 arg6 harg6 arg7 harg7 arg8 harg8 arg9 harg9) K} := by
  refine ⟨?_, ?run⟩
  case run =>
    intro E K
    simp only [cc0__bias_kernel_eq_skeleton]; unfold cc0__bias_kernel_skel
    simp only [k0_part3_eq_skeleton, k0_part1_eq_skeleton, k0_part2_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩,
      ⟨%fs0, %hs0, HS0⟩, ⟨%fs1, %hs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hs0; obtain rfl := harg9.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; isplitr; · ipureintro; exact harg8.read_unread _
      iexact HS0
    iexists _; isplitr; · ipureintro; exact harg9.read_unread _
    iexact HS1

end Runs

end Cert.KernelIdeal.Bias

end
-- ==== Proof.BodyFirst.lean ====
/- The kernel body of `KernelIdeal` at a batch's first tile, where it fills the two scratch tables before it reads
   them. -/
module

public import proofs.«01_k».proof.Proof.Body

@[expose] public section

set_option maxRecDepth 16384

noncomputable section

namespace Cert.KernelIdeal.Bias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

section Runs

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

set_option maxHeartbeats 1144000 in
/-- THE BODY AT A BATCH'S FIRST TILE (the branch taken): as `runLater`, and the writes found here made in the two
    tables as well. -/
def runFirst (hc0 : firstTile i) :
    Σ' (L8 : Writes F S8x512 .i32) (L9 : Writes F S512x8 .i32),
      {L : Writes F S1x16x64x512 .f32 // ∀ (E : Set ℕ) (K : PUnit → sProp 𝕄),
          iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4 ∗ (∃ d, owns (c : Thread nD τ) arg7 fullShare d)
              ∗ owns (c : Thread nD τ) arg8 fullShare s0 ∗ owns (c : Thread nD τ) arg9 fullShare s1
              ∗ (iprop(owns (c : Thread nD τ) arg2 fullShare x0 ∗ owns (c : Thread nD τ) arg3 fullShare x1
                  ∗ owns (c : Thread nD τ) arg4 fullShare x2 ∗ owns (c : Thread nD τ) arg5 fullShare x3
                  ∗ owns (c : Thread nD τ) arg6 fullShare x4 ∗ (∃ f, View.loc (c : Thread nD τ) arg7.view ↦[arg7.view.set]{fullShare} arg7.view.writes (Elt F) f L)
                  ∗ (∃ f, View.loc (c : Thread nD τ) arg8.view ↦[arg8.view.set]{fullShare} arg8.view.writes (Elt F) f L8)
                  ∗ (∃ f, View.loc (c : Thread nD τ) arg9.view ↦[arg9.view.set]{fullShare} arg9.view.writes (Elt F) f L9)) -∗ K ⟨⟩))
            ⊢ wp frame (wpE (defs₀ (F := F)) Variants.none c none) E
                (cc0__bias_kernel i arg2 harg2 arg3 harg3 arg4 harg4 arg5 harg5 arg6 harg6 arg7 harg7 arg8 harg8 arg9 harg9) K} := by
  refine ⟨?_, ?_, ?_, ?run⟩
  case run =>
    intro E K
    simp only [cc0__bias_kernel_eq_skeleton]; unfold cc0__bias_kernel_skel
    simp only [k0_part3_eq_skeleton, k0_part1_eq_skeleton, k0_part2_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩,
      ⟨%fs0, %hs0, HS0⟩, ⟨%fs1, %hs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hs0; obtain rfl := harg9.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; iexact HS0
    iexists _; iexact HS1

end Runs

end Cert.KernelIdeal.Bias

end
-- ==== Proof.Tile.lean ====
/- What one tile of the kernel computes, read at an element: the bucket of a pair of positions, the validity of the
   pair, and the bias value picked. -/
module

public import proofs.«01_k».proof.Proof.Gen.KernelIdeal
public import proofs.«01_k».proof.Proof.Gen.KernelIdeal.Skeleton
public import Idealize.ShloMosaic.Lib.Pointwise
public import Idealize.ShloMosaic.Lib.Pipeline.ValueKit.Tiles

@[expose] public section

noncomputable section

namespace Cert.KernelIdeal.Bias

open Idealize.ShloMosaic Cert.KernelIdeal.Gen

variable {F : FTy → Type} [FloatOps F]

/-- The pairs (distance `s`, steps `a` up from the row's position) in the order the kernel tests them. -/
def tests : List (ℕ × ℕ) :=
  [(6, 0), (6, 1), (6, 2), (6, 3), (6, 4), (6, 5), (6, 6), (5, 0), (5, 1), (5, 2), (5, 3), (5, 4), (5, 5),
   (4, 0), (4, 1), (4, 2), (4, 3), (4, 4), (3, 0), (3, 1), (3, 2), (3, 3), (2, 0), (2, 1), (2, 2), (1, 0), (1, 1), (0, 0)]

/-- The bucket word of a pair of positions: `C a` is the word of the row's position after `a` steps to the parent,
    `R a` the column's; seven unless a test succeeds, else the distance of the last test that does. -/
def bucketWord (C R : ℕ → BitVec 32) : BitVec 32 :=
  tests.foldl (fun b p => Scalar.select (IntOp.cmpi .eq (C p.2) (R (p.1 - p.2))) (BitVec.ofNat 32 p.1) b) 7#32

/-- The words of row `r`'s position after zero to six steps, from the tile's six column loads. -/
def rowWords (i : grid0.Coords) (c : Fin 6 → Vec F S64x1 .i32) (r : Fin 64) : ℕ → BitVec 32
  | 0 => BitVec.ofNat 32 (64 * (i 1).val + r.val)
  | a + 1 => if h : a < 6 then c ⟨a, h⟩ (ix2 r 0) else 0

/-- The words of column `j`'s position after zero to six steps, from the six row loads. -/
def colWords (w : Fin 6 → Vec F S1x512 .i32) (j : Fin 512) : ℕ → BitVec 32
  | 0 => BitVec.ofNat 32 j.val
  | a + 1 => if h : a < 6 then w ⟨a, h⟩ (ix2 0 j) else 0

/-- The positions along a row. -/
abbrev lane : IVec S1x512 32 := iota .tc S1x512 32 [1] iota_S1x512_d1_w32

/-- The tile's partial buckets after the tests at distances six, five and part of four. -/
def bucket33 (i : grid0.Coords) (c : Fin 6 → Vec F S64x1 .i32) (w : Fin 6 → Vec F S1x512 .i32) : IVec S64x512 32 :=
  k0_pay33 lane (k0_pay29 i) (c 0) (c 1) (c 2) (c 3) (c 4) (c 5) (w 0) (w 1) (w 2) (w 3) (w 4)
    (k0_pay30 i (w 5)) (k0_pay31 (c 0)) (k0_pay32 (w 4))

/-- After part of the tests at distance three. -/
def bucket36 (i : grid0.Coords) (c : Fin 6 → Vec F S64x1 .i32) (w : Fin 6 → Vec F S1x512 .i32) : IVec S64x512 32 :=
  k0_pay36 lane (k0_pay29 i) (c 0) (c 1) (c 2) (c 3) (c 4) (w 0) (w 1) (w 2) (w 3)
    (bucket33 i c w) (k0_pay34 (c 3)) (k0_pay35 (w 0))

/-- The tile's buckets. -/
def bucketBlk (i : grid0.Coords) (c : Fin 6 → Vec F S64x1 .i32) (w : Fin 6 → Vec F S1x512 .i32) : IVec S64x512 32 :=
  k0_pay39 lane (k0_pay29 i) (c 0) (c 1) (w 0) (w 1) (bucket36 i c w) (k0_pay37 (c 2)) (k0_pay38 lane)

/-- The first position of a tile plus the row within it, as the kernel adds the two words. -/
theorem rowBase_apply (i : grid0.Coords) (r : Fin 64) :
    k0_pay29 i (ix2 r 0) = BitVec.ofNat 32 (64 * (i 1).val + r.val) := by
  have h1 := (i 1).isLt
  pointwise [k0_pay29]
  show BitVec.ofNat 32 (i 1).val * 64#32 + BitVec.ofNat 32 r.val = _
  apply BitVec.eq_of_toNat_eq
  simp only [BitVec.toNat_add, BitVec.toNat_mul, BitVec.toNat_ofNat]
  omega

set_option maxHeartbeats 1000000 in
/-- Each bucket of the tile is the bucket word of the pair's chains. -/
theorem bucketBlk_apply (i : grid0.Coords) (c : Fin 6 → Vec F S64x1 .i32) (w : Fin 6 → Vec F S1x512 .i32) (r : Fin 64) (j : Fin 512) :
    bucketBlk i c w (ix2 r j) = bucketWord (rowWords i c r) (colWords w j) := by
  pointwise [bucketBlk, bucket36, bucket33, k0_pay30, k0_pay31, k0_pay32, k0_pay33, k0_pay34, k0_pay35, k0_pay36, k0_pay37, k0_pay38, k0_pay39]
  rw [rowBase_apply]; rfl

/-- Bit `n`, of value `v = 2 ^ n`, of a bucket word, as the kernel tests it. -/
def bitOf (v : BitVec 32) (b : BitVec 32) : BitVec 1 := IntOp.cmpi .ne (IntOp.andi b v) 0#32

/-- The tile's three bit planes. -/
def plane0 (i : grid0.Coords) (c : Fin 6 → Vec F S64x1 .i32) (w : Fin 6 → Vec F S1x512 .i32) : IVec S64x512 1 :=
  k0_pay40 lane (k0_pay29 i) (c 0) (c 1) (w 0) (w 1) (bucket36 i c w) (k0_pay37 (c 2)) (k0_pay38 lane)
def plane1 (i : grid0.Coords) (c : Fin 6 → Vec F S64x1 .i32) (w : Fin 6 → Vec F S1x512 .i32) : IVec S64x512 1 :=
  k0_pay41 lane (k0_pay29 i) (c 0) (c 1) (w 0) (w 1) (bucket36 i c w) (k0_pay37 (c 2)) (k0_pay38 lane)
def plane2 (i : grid0.Coords) (c : Fin 6 → Vec F S64x1 .i32) (w : Fin 6 → Vec F S1x512 .i32) : IVec S64x512 1 :=
  k0_pay42 lane (k0_pay29 i) (c 0) (c 1) (w 0) (w 1) (bucket36 i c w) (k0_pay37 (c 2)) (k0_pay38 lane)

/-- The three planes at an element are the bits of its bucket. -/
theorem planes_apply (i : grid0.Coords) (c : Fin 6 → Vec F S64x1 .i32) (w : Fin 6 → Vec F S1x512 .i32) (y : S64x512.Idx) :
    plane0 i c w y = bitOf 1#32 (bucketBlk i c w y) ∧ plane1 i c w y = bitOf 2#32 (bucketBlk i c w y)
      ∧ plane2 i c w y = bitOf 4#32 (bucketBlk i c w y) := ⟨rfl, rfl, rfl⟩

/-- A pair is valid when both of its positions' mask values are above zero. -/
def validWord (q k : Elt F .f32) : BitVec 1 :=
  IntOp.andi (FloatOps.cmpf .ogt q (FloatOps.ofBits .f32 0x00000000#32)) (FloatOps.cmpf .ogt k (FloatOps.ofBits .f32 0x00000000#32))

theorem valid_apply (q : Vec F S1x64x1 .f32) (k : Vec F S1x1x512 .f32) (r : Fin 64) (j : Fin 512) :
    k0_pay43 q k (ix2 r j) = validWord (q (ix3 0 r 0)) (k (ix3 0 0 j)) := by
  pointwise [k0_pay43, validWord]

/-- The kernel's pick among a head's eight bias values by the three bits, and its fill value where the pair is not
    valid. -/
def pick (m0 m1 m2 v : BitVec 1) (b : Fin 8 → Elt F .f32) : Elt F .f32 :=
  Scalar.select v
    (Scalar.select m2 (Scalar.select m1 (Scalar.select m0 (b 7) (b 6)) (Scalar.select m0 (b 5) (b 4)))
      (Scalar.select m1 (Scalar.select m0 (b 3) (b 2)) (Scalar.select m0 (b 1) (b 0))))
    (FloatOps.ofBits .f32 0xFF7FFFFF#32)

/-- One head's block, from the bit planes, the validity and the head's bias values. -/
def headBlk (m0 m1 m2 v : IVec S64x512 1) (b : Fin 8 → Elt F .f32) : FVec F S1x1x64x512 .f32 :=
  k0_pay46 m0 m1 m2 v (b 0) (b 1) (b 2) (b 3) (b 4) (b 5) (b 6) (b 7)

theorem headBlk_apply (m0 m1 m2 v : IVec S64x512 1) (b : Fin 8 → Elt F .f32) (r : Fin 64) (j : Fin 512) :
    headBlk m0 m1 m2 v b (ix4 0 0 r j) = pick (m0 (ix2 r j)) (m1 (ix2 r j)) (m2 (ix2 r j)) (v (ix2 r j)) b := by
  pointwise [headBlk, k0_pay46, pick]

/-- Head `15 - h`'s rectangle lies in the output block. -/
theorem head_inb (h : Fin 16) : ∀ a, (![0, 15 - h.val, 0, 0] : Fin 4 → ℕ) a + S1x1x64x512.size a ≤ S1x16x64x512.size a := by
  revert h; decide

/-- The sixteen heads' stores, the last one first. -/
def heads (m0 m1 m2 v : IVec S64x512 1) (b : Fin 16 → Fin 8 → Elt F .f32) : List (View.Piece (Elt F) S1x16x64x512 .f32) :=
  List.ofFn fun h : Fin 16 => ⟨Rect.unit ![0, 15 - h.val, 0, 0] S1x1x64x512.size (head_inb h), headBlk m0 m1 m2 v (b h.rev)⟩

/-- What the sixteen stores leave at head `h`, row `r`, lane `j`. -/
theorem canon_heads (m0 m1 m2 v : IVec S64x512 1) (b : Fin 16 → Fin 8 → Elt F .f32) (h : Fin 16) (r : Fin 64) (j : Fin 512) :
    View.canon (Val := Elt F) (s := S1x16x64x512) (e := .f32) (heads m0 m1 m2 v b) (ix4 0 h r j)
      = pick (m0 (ix2 r j)) (m1 (ix2 r j)) (m2 (ix2 r j)) (v (ix2 r j)) (b h) := by
  unfold heads
  refine View.canon_ofFn_unit_eq_of_forall (Val := Elt F) (S := S1x16x64x512) (e := .f32) (fun h : Fin 16 => ![0, 15 - h.val, 0, 0]) S1x1x64x512.size head_inb
    (fun k => headBlk m0 m1 m2 v (b k.rev)) (ix4 0 h r j) _ ⟨h.rev, ?_⟩ ?_
  · intro a
    have := h.isLt; have := r.isLt; have := j.isLt
    match a with
    | 0 => exact ⟨Nat.le_refl 0, Nat.zero_lt_one⟩
    | 1 => show 15 - (h.rev).val ≤ h.val ∧ h.val < 15 - (h.rev).val + 1; rw [Fin.val_rev]; omega
    | 2 => show 0 ≤ r.val ∧ r.val < 0 + 64; omega
    | 3 => show 0 ≤ j.val ∧ j.val < 0 + 512; omega
  · intro k x hx
    have h1 : h.val = 15 - k.val + (x 1).val := hx 1
    have h2 : r.val = 0 + (x 2).val := hx 2
    have h3 : j.val = 0 + (x 3).val := hx 3
    have l0 : (x 0).val < 1 := (x 0).isLt
    have l1 : (x 1).val < 1 := (x 1).isLt
    have hk : h = k.rev := Fin.ext (by rw [Fin.val_rev]; have := k.isLt; omega)
    have hx' : x = (ix4 0 0 r j : S1x1x64x512.Idx) := by
      funext a
      match a with
      | 0 => exact Fin.ext (by show (x 0).val = 0; omega)
      | 1 => exact Fin.ext (by show (x 1).val = 0; omega)
      | 2 => exact Fin.ext (by show (x 2).val = r.val; omega)
      | 3 => exact Fin.ext (by show (x 3).val = j.val; omega)
    rw [hx', hk]
    exact headBlk_apply m0 m1 m2 v (b k.rev) r j

/-- The stores cover the block. -/
theorem heads_cover (m0 m1 m2 v : IVec S64x512 1) (b : Fin 16 → Fin 8 → Elt F .f32) (y : S1x16x64x512.Idx) :
    ∃ p ∈ heads m0 m1 m2 v b, y ∈ p.1.set := by
  have l0 : (y 0).val < 1 := (y 0).isLt
  have l1 : (y 1).val < 16 := (y 1).isLt
  have l2 : (y 2).val < 64 := (y 2).isLt
  have l3 : (y 3).val < 512 := (y 3).isLt
  refine ⟨_, List.mem_ofFn.mpr ⟨(⟨(y 1).val, l1⟩ : Fin 16).rev, rfl⟩, (Rect.mem_set_unit (inb := head_inb _)).mpr fun a => ?_⟩
  match a with
  | 0 => show 0 ≤ (y 0).val ∧ (y 0).val < 0 + 1; omega
  | 1 =>
    show 15 - ((⟨(y 1).val, l1⟩ : Fin 16).rev).val ≤ (y 1).val ∧ (y 1).val < 15 - ((⟨(y 1).val, l1⟩ : Fin 16).rev).val + 1
    rw [Fin.val_rev]; show 15 - (16 - ((y 1).val + 1)) ≤ _ ∧ _ < 15 - (16 - ((y 1).val + 1)) + 1; omega
  | 2 => show 0 ≤ (y 2).val ∧ (y 2).val < 0 + 64; omega
  | 3 => show 0 ≤ (y 3).val ∧ (y 3).val < 0 + 512; omega

end Cert.KernelIdeal.Bias

end
-- ==== Proof.Link.lean ====
/- The writes of the body's two runs, as the tile's sixteen head stores over the run's loads. -/
module

public import proofs.«01_k».proof.Proof.BodyFirst
public import proofs.«01_k».proof.Proof.Tile

@[expose] public section

set_option maxRecDepth 16384

noncomputable section

namespace Cert.KernelIdeal.Bias

open Idealize.ShloMosaic Idealize.ShloMosaic.TcCoe Idealize.SL.Sem
open Cert.KernelIdeal.Gen

variable {F : FTy → Type} [FloatOps F]

/-- One bias value lies in the table. -/
theorem bias_inb (h : Fin 16) (k : Fin 8) : ∀ a, (![h.val, k.val] : Fin 2 → ℕ) a + S1x1.size a ≤ S16x8.size a := by
  revert h k; decide

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

/-- The bias values the body loads one by one. -/
def biasLoads : Fin 16 → Fin 8 → Elt F .f32 := fun h k =>
  View.readAt (Elt F) arg6.view (Rect.unit (s := S16x8) ![h.val, k.val] S1x1.size (bias_inb h k)).toLoadRect (harg6.unread x4) (Shape.Idx.first (s := S1x1) (by decide))

/-- The tile's rows of the query mask, and the key mask. -/
def qLoad : Vec F S1x64x1 .f32 :=
  View.readAt (Elt F) arg5.view (Rect.unit (s := S1x512x1) (k0_off7 i) S1x64x1.size (k0_off7_inb i)).toLoadRect (harg5.unread x3)
def kLoad : Vec F S1x1x512 .f32 :=
  View.readAt (Elt F) arg4.view (Rect.unit (s := S1x1x512) ![0, 0, 0] S1x1x512.size inb_S1x1x512_S1x1x512_0_0_0).toLoadRect (harg4.unread x2)

/-- A later tile's loads of the two tables. -/
def colsLater : Fin 6 → Vec F S64x1 .i32 :=
  ![runLater.sl.r c i arg9 harg9 s1, runLater.sl.r_1 c i arg9 harg9 s1, runLater.sl.r_2 c i arg9 harg9 s1,
    runLater.sl.r_3 c i arg9 harg9 s1, runLater.sl.r_4 c i arg9 harg9 s1, runLater.sl.r_5 c i arg9 harg9 s1]
def rowsLater : Fin 6 → Vec F S1x512 .i32 :=
  ![runLater.sl.r_6 c arg8 harg8 s0, runLater.sl.r_7 c arg8 harg8 s0, runLater.sl.r_8 c arg8 harg8 s0,
    runLater.sl.r_9 c arg8 harg8 s0, runLater.sl.r_10 c arg8 harg8 s0,
    View.readAt (Elt F) arg8.view (Rect.unit (s := S8x512) ![6, 0] S1x512.size inb_S8x512_S1x512_6_0).toLoadRect (harg8.unread s0)]

theorem ofFn16 {α : Type*} (f : Fin 16 → α) : List.ofFn f
    = [f 0, f 1, f 2, f 3, f 4, f 5, f 6, f 7, f 8, f 9, f 10, f 11, f 12, f 13, f 14, f 15] := rfl

theorem runLater_heads (hc0 : ¬ firstTile i) :
    (runLater c i arg2 harg2 arg3 harg3 arg4 harg4 arg5 harg5 arg6 harg6 arg7 harg7 arg8 harg8 arg9 harg9 x0 x1 x2 x3 x4 s0 s1 hc0).1
      = heads (runLater.sl.r_19 c i arg8 harg8 arg9 harg9 s0 s1) (runLater.sl.r_20 c i arg8 harg8 arg9 harg9 s0 s1)
          (runLater.sl.r_21 c i arg8 harg8 arg9 harg9 s0 s1)
          (k0_pay43 (qLoad i arg5 harg5 x3) (kLoad arg4 harg4 x2)) (biasLoads arg6 harg6 x4) := by
  unfold runLater heads
  rw [ofFn16]
  dsimp only
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (rfl))))))))))))))))
  all_goals rfl

theorem runLater_planes :
    runLater.sl.r_19 c i arg8 harg8 arg9 harg9 s0 s1 = plane0 i (colsLater c i arg9 harg9 s1) (rowsLater c arg8 harg8 s0)
    ∧ runLater.sl.r_20 c i arg8 harg8 arg9 harg9 s0 s1 = plane1 i (colsLater c i arg9 harg9 s1) (rowsLater c arg8 harg8 s0)
    ∧ runLater.sl.r_21 c i arg8 harg8 arg9 harg9 s0 s1 = plane2 i (colsLater c i arg9 harg9 s1) (rowsLater c arg8 harg8 s0) := by
  refine ⟨?_, ?_, ?_⟩
  · unfold runLater.sl.r_19 plane0; rfl
  · unfold runLater.sl.r_20 plane1; rfl
  · unfold runLater.sl.r_21 plane2; rfl

/-- A first tile's loads of the two tables, after the branch filled them. -/
def colsFirst : Fin 6 → Vec F S64x1 .i32 :=
  ![runFirst.sl.r_6 c i arg3 harg3 arg9 harg9 x1 s1, runFirst.sl.r_7 c i arg3 harg3 arg9 harg9 x1 s1,
    runFirst.sl.r_8 c i arg3 harg3 arg9 harg9 x1 s1, runFirst.sl.r_9 c i arg3 harg3 arg9 harg9 x1 s1,
    runFirst.sl.r_10 c i arg3 harg3 arg9 harg9 x1 s1, runFirst.sl.r_11 c i arg3 harg3 arg9 harg9 x1 s1]
def rowsFirst : Fin 6 → Vec F S1x512 .i32 :=
  ![runFirst.sl.v20 c arg2 harg2 arg8 x0, runFirst.sl.v21 c arg2 harg2 arg8 x0, runFirst.sl.v22 c arg2 harg2 arg8 x0,
    runFirst.sl.v23 c arg2 harg2 arg8 x0, runFirst.sl.v24 c arg2 harg2 arg8 x0, runFirst.sl.v25 c arg2 harg2 arg8 x0]

theorem runFirst_heads (hc0 : firstTile i) :
    (runFirst c i arg2 harg2 arg3 harg3 arg4 harg4 arg5 harg5 arg6 harg6 arg7 harg7 arg8 harg8 arg9 harg9 x0 x1 x2 x3 x4 s0 s1 hc0).2.2.1
      = heads (runFirst.sl.r_20 c i arg2 harg2 arg3 harg3 arg8 arg9 harg9 x0 x1 s1)
          (runFirst.sl.r_21 c i arg2 harg2 arg3 harg3 arg8 arg9 harg9 x0 x1 s1)
          (runFirst.sl.r_22 c i arg2 harg2 arg3 harg3 arg8 arg9 harg9 x0 x1 s1)
          (k0_pay43 (qLoad i arg5 harg5 x3) (kLoad arg4 harg4 x2)) (biasLoads arg6 harg6 x4) := by
  unfold runFirst heads
  rw [ofFn16]
  dsimp only
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (rfl))))))))))))))))
  all_goals rfl

theorem runFirst_planes :
    (runFirst.sl.r_20 c i arg2 harg2 arg3 harg3 arg8 arg9 harg9 x0 x1 s1) = plane0 i (colsFirst c i arg3 harg3 arg9 harg9 x1 s1) (rowsFirst c arg2 harg2 arg8 x0)
    ∧ (runFirst.sl.r_21 c i arg2 harg2 arg3 harg3 arg8 arg9 harg9 x0 x1 s1) = plane1 i (colsFirst c i arg3 harg3 arg9 harg9 x1 s1) (rowsFirst c arg2 harg2 arg8 x0)
    ∧ (runFirst.sl.r_22 c i arg2 harg2 arg3 harg3 arg8 arg9 harg9 x0 x1 s1) = plane2 i (colsFirst c i arg3 harg3 arg9 harg9 x1 s1) (rowsFirst c arg2 harg2 arg8 x0) := by
  refine ⟨?_, ?_, ?_⟩
  · unfold runFirst.sl.r_20 plane0; rfl
  · unfold runFirst.sl.r_21 plane1; rfl
  · unfold runFirst.sl.r_22 plane2; rfl

end Cert.KernelIdeal.Bias
-- ==== Proof.Chains.lean ====
/- What the body's two runs load and store: the two tables of parent chains, the masks' rows and the bias values, read
   at an element. -/
module

public import proofs.«01_k».proof.Proof.Link
public import Idealize.ShloMosaic.Lib.VecWindow

@[expose] public section

set_option maxRecDepth 16384

noncomputable section

namespace Cert.KernelIdeal.Bias

open Idealize.ShloMosaic Idealize.ShloMosaic.TcCoe Idealize.SL.Sem
open Cert.KernelIdeal.Gen

variable {F : FTy → Type} [FloatOps F]

/-- The positions down a column. -/
abbrev down : IVec S512x1 32 := iota .tc S512x1 32 [0] iota_S512x1_d0_w32

/-- The zero accumulator the row chain's products start from. -/
abbrev zeroRow : FVec F S1x512 .f32 := constant S1x512 .f32 0x00000000#32

/-- The rows the first tile stores: entry `a` is the chain after `a + 1` steps, one row of all positions. -/
def chainRow (x0 : Vec F S1x1x512 .i32) : Fin 6 → Vec F S1x512 .i32 :=
  ![k0_pay6 x0, k0_pay10 x0, k0_pay15 (k0_pay4 x0) (k0_pay12 x0) zeroRow, k0_pay19 (k0_pay4 x0) down (k0_pay12 x0) zeroRow,
    k0_pay25 (k0_pay21 (k0_pay4 x0) down (k0_pay12 x0) zeroRow), k0_pay27 (k0_pay4 x0) down (k0_pay21 (k0_pay4 x0) down (k0_pay12 x0) zeroRow)]

/-- The columns the first tile stores: entry `a` is the chain after `a + 1` steps, one column of all positions. -/
def chainCol (x1 : Vec F S1x512x1 .i32) : Fin 6 → Vec F S512x1 .i32 :=
  ![k0_pay7 x1, k0_pay11 x1, k0_pay16 (k0_pay5 x1) lane (k0_pay9 x1), k0_pay20 (k0_pay5 x1) lane (k0_pay9 x1),
    k0_pay26 (k0_pay5 x1) (k0_pay22 (k0_pay5 x1) lane (k0_pay9 x1)) (k0_pay23 lane),
    k0_pay28 (k0_pay5 x1) lane (k0_pay22 (k0_pay5 x1) lane (k0_pay9 x1)) (k0_pay23 lane)]

/-- Row `6 - k` lies in the table of rows, column `6 - k` in the table of columns. -/
theorem row_inb (k : Fin 6) : ∀ a, (![6 - k.val, 0] : Fin 2 → ℕ) a + S1x512.size a ≤ S8x512.size a := by revert k; decide
theorem col_inb (k : Fin 6) : ∀ a, (![0, 6 - k.val] : Fin 2 → ℕ) a + S512x1.size a ≤ S512x8.size a := by revert k; decide

/-- The six stores of the table of rows, the last one first. -/
def rowStores (w : Fin 6 → Vec F S1x512 .i32) : Writes F S8x512 .i32 :=
  List.ofFn fun k : Fin 6 => ⟨Rect.unit ![6 - k.val, 0] S1x512.size (row_inb k), w k.rev⟩
def colStores (w : Fin 6 → Vec F S512x1 .i32) : Writes F S512x8 .i32 :=
  List.ofFn fun k : Fin 6 => ⟨Rect.unit ![0, 6 - k.val] S512x1.size (col_inb k), w k.rev⟩

/-- The table index of step `a + 1`. -/
abbrev step (a : Fin 6) : Fin 8 := ⟨a.val + 1, by omega⟩

theorem canon_rowStores (w : Fin 6 → Vec F S1x512 .i32) (a : Fin 6) (j : Fin 512) :
    View.canon (Val := Elt F) (s := S8x512) (e := .i32) (rowStores w) (ix2 (step a) j) = w a (ix2 0 j) := by
  unfold rowStores
  refine View.canon_ofFn_unit_eq_of_forall (Val := Elt F) (S := S8x512) (e := .i32) (fun k : Fin 6 => ![6 - k.val, 0]) S1x512.size row_inb
    (fun k => w k.rev) (ix2 (step a) j) _ ⟨a.rev, ?_⟩ ?_
  · intro b
    have := a.isLt; have := j.isLt
    match b with
    | 0 => show 6 - (a.rev).val ≤ a.val + 1 ∧ a.val + 1 < 6 - (a.rev).val + 1; rw [Fin.val_rev]; omega
    | 1 => show 0 ≤ j.val ∧ j.val < 0 + 512; omega
  · intro k x hx
    have h1 : a.val + 1 = 6 - k.val + (x 0).val := hx 0
    have h2 : j.val = 0 + (x 1).val := hx 1
    have l0 : (x 0).val < 1 := (x 0).isLt
    have hk : a = k.rev := Fin.ext (by rw [Fin.val_rev]; have := k.isLt; omega)
    have hx' : x = (ix2 0 j : S1x512.Idx) := by
      funext b
      match b with
      | 0 => exact Fin.ext (by show (x 0).val = 0; omega)
      | 1 => exact Fin.ext (by show (x 1).val = j.val; omega)
    rw [hx', hk]

theorem canon_colStores (w : Fin 6 → Vec F S512x1 .i32) (a : Fin 6) (r : Fin 512) :
    View.canon (Val := Elt F) (s := S512x8) (e := .i32) (colStores w) (ix2 r (step a)) = w a (ix2 r 0) := by
  unfold colStores
  refine View.canon_ofFn_unit_eq_of_forall (Val := Elt F) (S := S512x8) (e := .i32) (fun k : Fin 6 => ![0, 6 - k.val]) S512x1.size col_inb
    (fun k => w k.rev) (ix2 r (step a)) _ ⟨a.rev, ?_⟩ ?_
  · intro b
    have := a.isLt; have := r.isLt
    match b with
    | 0 => show 0 ≤ r.val ∧ r.val < 0 + 512; omega
    | 1 => show 6 - (a.rev).val ≤ a.val + 1 ∧ a.val + 1 < 6 - (a.rev).val + 1; rw [Fin.val_rev]; omega
  · intro k x hx
    have h1 : r.val = 0 + (x 0).val := hx 0
    have h2 : a.val + 1 = 6 - k.val + (x 1).val := hx 1
    have l0 : (x 1).val < 1 := (x 1).isLt
    have hk : a = k.rev := Fin.ext (by rw [Fin.val_rev]; have := k.isLt; omega)
    have hx' : x = (ix2 r 0 : S512x1.Idx) := by
      funext b
      match b with
      | 0 => exact Fin.ext (by show (x 0).val = r.val; omega)
      | 1 => exact Fin.ext (by show (x 1).val = 0; omega)
    rw [hx', hk]

theorem rowStores_cover (w : Fin 6 → Vec F S1x512 .i32) (a : Fin 6) (j : Fin 512) :
    ∃ p ∈ rowStores w, (ix2 (step a) j : S8x512.Idx) ∈ p.1.set := by
  refine ⟨_, List.mem_ofFn.mpr ⟨a.rev, rfl⟩, (Rect.mem_set_unit (inb := row_inb _)).mpr fun b => ?_⟩
  have := a.isLt; have := j.isLt
  match b with
  | 0 => show 6 - (a.rev).val ≤ a.val + 1 ∧ a.val + 1 < 6 - (a.rev).val + 1; rw [Fin.val_rev]; omega
  | 1 => show 0 ≤ j.val ∧ j.val < 0 + 512; omega

theorem colStores_cover (w : Fin 6 → Vec F S512x1 .i32) (a : Fin 6) (r : Fin 512) :
    ∃ p ∈ colStores w, (ix2 r (step a) : S512x8.Idx) ∈ p.1.set := by
  refine ⟨_, List.mem_ofFn.mpr ⟨a.rev, rfl⟩, (Rect.mem_set_unit (inb := col_inb _)).mpr fun b => ?_⟩
  have := a.isLt; have := r.isLt
  match b with
  | 0 => show 0 ≤ r.val ∧ r.val < 0 + 512; omega
  | 1 => show 6 - (a.rev).val ≤ a.val + 1 ∧ a.val + 1 < 6 - (a.rev).val + 1; rw [Fin.val_rev]; omega

/-- Position `r` of tile `i`, of all 512. -/
abbrev pos (i : grid0.Coords) (r : Fin 64) : Fin 512 := ⟨64 * (i 1).val + r.val, by have h : (i 1).val < 8 := (i 1).isLt; omega⟩

theorem rowRect_idx {off : Fin 2 → ℕ} (inb : ∀ a, off a + S1x512.size a ≤ S8x512.size a) (a : Fin 6) (h : off = ![a.val + 1, 0]) (j : Fin 512) :
    (Rect.unit (s := S8x512) off S1x512.size inb).toLoadRect.idx (ix2 0 j) = ix2 (step a) j := by
  subst h
  funext b
  match b with
  | 0 => exact Fin.ext (by show a.val + 1 + 1 * 0 = a.val + 1; omega)
  | 1 => exact Fin.ext (by show 0 + 1 * j.val = j.val; omega)

theorem colRect_idx (i : grid0.Coords) {off : Fin 2 → ℕ} (inb : ∀ a, off a + S64x1.size a ≤ S512x8.size a) (a : Fin 6)
    (h : off = ![64 * (i 1).val, a.val + 1]) (r : Fin 64) :
    (Rect.unit (s := S512x8) off S64x1.size inb).toLoadRect.idx (ix2 r 0) = ix2 (pos i r) (step a) := by
  subst h
  funext b
  match b with
  | 0 => exact Fin.ext (by show 64 * (i 1).val + 1 * r.val = _; rw [Nat.one_mul]; rfl)
  | 1 => exact Fin.ext (by show a.val + 1 + 1 * 0 = a.val + 1; omega)

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

theorem ofFn6 {α : Type*} (f : Fin 6 → α) : List.ofFn f = [f 0, f 1, f 2, f 3, f 4, f 5] := rfl

/-- The first tile's stores of the two tables hold the chains of the parents it loads. -/
theorem rowStores_eq : runFirst.sl.HS0_6 c arg2 harg2 x0 = rowStores (chainRow x0) := by
  have e : View.readAt (Elt F) arg2.view (Rect.unit (s := S1x1x512) ![0, 0, 0] S1x1x512.size inb_S1x1x512_S1x1x512_0_0_0).toLoadRect (harg2.unread x0) = x0 :=
    (View.readAt_full arg2.view _ _).trans (harg2.read_unread x0)
  unfold runFirst.sl.HS0_6 runFirst.sl.r_4 runFirst.sl.r runFirst.sl.r_3 rowStores
  rw [e, ofFn6]
  refine congrArg₂ List.cons ?_ (congrArg₂ List.cons ?_ (congrArg₂ List.cons ?_ (congrArg₂ List.cons ?_ (congrArg₂ List.cons ?_ (congrArg₂ List.cons ?_ (rfl))))))
  all_goals rfl

theorem colStores_eq : runFirst.sl.HS1_6 c arg3 harg3 x1 = colStores (chainCol x1) := by
  have e : View.readAt (Elt F) arg3.view (Rect.unit (s := S1x512x1) ![0, 0, 0] S1x512x1.size inb_S1x512x1_S1x512x1_0_0_0).toLoadRect (harg3.unread x1) = x1 :=
    (View.readAt_full arg3.view _ _).trans (harg3.read_unread x1)
  unfold runFirst.sl.HS1_6 runFirst.sl.r_5 runFirst.sl.r_1 runFirst.sl.r_2 colStores
  rw [e, ofFn6]
  refine congrArg₂ List.cons ?_ (congrArg₂ List.cons ?_ (congrArg₂ List.cons ?_ (congrArg₂ List.cons ?_ (congrArg₂ List.cons ?_ (congrArg₂ List.cons ?_ (rfl))))))
  all_goals rfl

theorem rowsFirst_apply (a : Fin 6) (j : Fin 512) : rowsFirst c arg2 harg2 arg8 x0 a (ix2 0 j) = chainRow x0 a (ix2 0 j) := by
  rw [← canon_rowStores (chainRow x0) a j, ← View.read_writes_apply_eq_canon arg8.view arg8.view.junk _ _ (rowStores_cover _ a j), ← rowStores_eq c arg2 harg2]
  match a with
  | 0 => exact congrArg (arg8.view.read (Elt F) (arg8.view.writes (Elt F) arg8.view.junk (runFirst.sl.HS0_6 c arg2 harg2 x0))) (rowRect_idx inb_S8x512_S1x512_1_0 0 rfl j)
  | 1 => exact congrArg (arg8.view.read (Elt F) (arg8.view.writes (Elt F) arg8.view.junk (runFirst.sl.HS0_6 c arg2 harg2 x0))) (rowRect_idx inb_S8x512_S1x512_2_0 1 rfl j)
  | 2 => exact congrArg (arg8.view.read (Elt F) (arg8.view.writes (Elt F) arg8.view.junk (runFirst.sl.HS0_6 c arg2 harg2 x0))) (rowRect_idx inb_S8x512_S1x512_3_0 2 rfl j)
  | 3 => exact congrArg (arg8.view.read (Elt F) (arg8.view.writes (Elt F) arg8.view.junk (runFirst.sl.HS0_6 c arg2 harg2 x0))) (rowRect_idx inb_S8x512_S1x512_4_0 3 rfl j)
  | 4 => exact congrArg (arg8.view.read (Elt F) (arg8.view.writes (Elt F) arg8.view.junk (runFirst.sl.HS0_6 c arg2 harg2 x0))) (rowRect_idx inb_S8x512_S1x512_5_0 4 rfl j)
  | 5 => exact congrArg (arg8.view.read (Elt F) (arg8.view.writes (Elt F) arg8.view.junk (runFirst.sl.HS0_6 c arg2 harg2 x0))) (rowRect_idx inb_S8x512_S1x512_6_0 5 rfl j)

theorem rowsLater_apply (a : Fin 6) (j : Fin 512) : rowsLater c arg8 harg8 s0 a (ix2 0 j) = s0 (ix2 (step a) j) := by
  rw [← congrFun (harg8.read_unread s0) (ix2 (step a) j)]
  match a with
  | 0 => exact congrArg (arg8.view.read (Elt F) (harg8.unread s0)) (rowRect_idx inb_S8x512_S1x512_1_0 0 rfl j)
  | 1 => exact congrArg (arg8.view.read (Elt F) (harg8.unread s0)) (rowRect_idx inb_S8x512_S1x512_2_0 1 rfl j)
  | 2 => exact congrArg (arg8.view.read (Elt F) (harg8.unread s0)) (rowRect_idx inb_S8x512_S1x512_3_0 2 rfl j)
  | 3 => exact congrArg (arg8.view.read (Elt F) (harg8.unread s0)) (rowRect_idx inb_S8x512_S1x512_4_0 3 rfl j)
  | 4 => exact congrArg (arg8.view.read (Elt F) (harg8.unread s0)) (rowRect_idx inb_S8x512_S1x512_5_0 4 rfl j)
  | 5 => exact congrArg (arg8.view.read (Elt F) (harg8.unread s0)) (rowRect_idx inb_S8x512_S1x512_6_0 5 rfl j)

theorem colsFirst_apply (a : Fin 6) (r : Fin 64) : colsFirst c i arg3 harg3 arg9 harg9 x1 s1 a (ix2 r 0) = chainCol x1 a (ix2 (pos i r) 0) := by
  rw [← canon_colStores (chainCol x1) a (pos i r), ← View.read_writes_apply_eq_canon arg9.view (harg9.unread s1) _ _ (colStores_cover _ a _), ← colStores_eq c arg3 harg3]
  match a with
  | 0 => exact congrArg (arg9.view.read (Elt F) (arg9.view.writes (Elt F) (harg9.unread s1) (runFirst.sl.HS1_6 c arg3 harg3 x1))) (colRect_idx i (k0_off1_inb i) 0 (k0_off1_eq i) r)
  | 1 => exact congrArg (arg9.view.read (Elt F) (arg9.view.writes (Elt F) (harg9.unread s1) (runFirst.sl.HS1_6 c arg3 harg3 x1))) (colRect_idx i (k0_off2_inb i) 1 (k0_off2_eq i) r)
  | 2 => exact congrArg (arg9.view.read (Elt F) (arg9.view.writes (Elt F) (harg9.unread s1) (runFirst.sl.HS1_6 c arg3 harg3 x1))) (colRect_idx i (k0_off3_inb i) 2 (k0_off3_eq i) r)
  | 3 => exact congrArg (arg9.view.read (Elt F) (arg9.view.writes (Elt F) (harg9.unread s1) (runFirst.sl.HS1_6 c arg3 harg3 x1))) (colRect_idx i (k0_off4_inb i) 3 (k0_off4_eq i) r)
  | 4 => exact congrArg (arg9.view.read (Elt F) (arg9.view.writes (Elt F) (harg9.unread s1) (runFirst.sl.HS1_6 c arg3 harg3 x1))) (colRect_idx i (k0_off5_inb i) 4 (k0_off5_eq i) r)
  | 5 => exact congrArg (arg9.view.read (Elt F) (arg9.view.writes (Elt F) (harg9.unread s1) (runFirst.sl.HS1_6 c arg3 harg3 x1))) (colRect_idx i (k0_off6_inb i) 5 (k0_off6_eq i) r)

theorem colsLater_apply (a : Fin 6) (r : Fin 64) : colsLater c i arg9 harg9 s1 a (ix2 r 0) = s1 (ix2 (pos i r) (step a)) := by
  rw [← congrFun (harg9.read_unread s1) (ix2 (pos i r) (step a))]
  match a with
  | 0 => exact congrArg (arg9.view.read (Elt F) (harg9.unread s1)) (colRect_idx i (k0_off1_inb i) 0 (k0_off1_eq i) r)
  | 1 => exact congrArg (arg9.view.read (Elt F) (harg9.unread s1)) (colRect_idx i (k0_off2_inb i) 1 (k0_off2_eq i) r)
  | 2 => exact congrArg (arg9.view.read (Elt F) (harg9.unread s1)) (colRect_idx i (k0_off3_inb i) 2 (k0_off3_eq i) r)
  | 3 => exact congrArg (arg9.view.read (Elt F) (harg9.unread s1)) (colRect_idx i (k0_off4_inb i) 3 (k0_off4_eq i) r)
  | 4 => exact congrArg (arg9.view.read (Elt F) (harg9.unread s1)) (colRect_idx i (k0_off5_inb i) 4 (k0_off5_eq i) r)
  | 5 => exact congrArg (arg9.view.read (Elt F) (harg9.unread s1)) (colRect_idx i (k0_off6_inb i) 5 (k0_off6_eq i) r)

theorem biasLoads_apply (h : Fin 16) (k : Fin 8) : biasLoads arg6 harg6 x4 h k = x4 (ix2 h k) := by
  rw [← congrFun (harg6.read_unread x4) (ix2 h k)]
  refine congrArg (arg6.view.read (Elt F) (harg6.unread x4)) (funext fun b => ?_)
  match b with
  | 0 => exact Fin.ext (by show h.val + 1 * 0 = h.val; omega)
  | 1 => exact Fin.ext (by show k.val + 1 * 0 = k.val; omega)

theorem kLoad_eq : kLoad arg4 harg4 x2 = x2 := (View.readAt_full arg4.view _ _).trans (harg4.read_unread x2)

theorem qLoad_apply (r : Fin 64) : qLoad i arg5 harg5 x3 (ix3 0 r 0) = x3 (ix3 0 (pos i r) 0) := by
  rw [← congrFun (harg5.read_unread x3) (ix3 0 (pos i r) 0)]
  refine congrArg (arg5.view.read (Elt F) (harg5.unread x3)) (funext fun b => ?_)
  have e := k0_off7_eq i
  match b with
  | 0 => exact Fin.ext (by show k0_off7 i 0 + 1 * 0 = 0; rw [e]; rfl)
  | 1 => exact Fin.ext (by show k0_off7 i 1 + 1 * r.val = 64 * (i 1).val + r.val; rw [e, Nat.one_mul]; rfl)
  | 2 => exact Fin.ext (by show k0_off7 i 2 + 1 * 0 = 0; rw [e]; rfl)

end Cert.KernelIdeal.Bias

end
-- ==== Proof.Block.lean ====
/- What one grid point leaves: the output block, the same for a first and a later tile of a batch row, and the two
   tables of parent chains. -/
module

public import proofs.«01_k».proof.Proof.Chains

@[expose] public section

set_option maxRecDepth 16384

noncomputable section

namespace Cert.KernelIdeal.Bias

open Idealize.ShloMosaic Idealize.ShloMosaic.TcCoe Idealize.SL.Sem
open Cert.KernelIdeal.Gen

variable {F : FTy → Type} [FloatOps F]

/-- The words of position `n` after zero to six steps, as the table of columns holds them. -/
def colChain (x1 : Vec F S1x512x1 .i32) (n : Fin 512) : ℕ → BitVec 32
  | 0 => BitVec.ofNat 32 n.val
  | a + 1 => if h : a < 6 then chainCol x1 ⟨a, h⟩ (ix2 n 0) else 0

/-- The words of position `n` after zero to six steps, as the table of rows holds them. -/
def rowChain (x0 : Vec F S1x1x512 .i32) (n : Fin 512) : ℕ → BitVec 32
  | 0 => BitVec.ofNat 32 n.val
  | a + 1 => if h : a < 6 then chainRow x0 ⟨a, h⟩ (ix2 0 n) else 0

/-- One element of the output block: head `h`, query position `q`, key position `k`. -/
def outElt (x0 : Vec F S1x1x512 .i32) (x1 : Vec F S1x512x1 .i32) (x2 : Vec F S1x1x512 .f32) (x3 : Vec F S1x512x1 .f32)
    (x4 : Vec F S16x8 .f32) (h : Fin 16) (q k : Fin 512) : Elt F .f32 :=
  pick (bitOf 1#32 (bucketWord (colChain x1 q) (rowChain x0 k))) (bitOf 2#32 (bucketWord (colChain x1 q) (rowChain x0 k)))
    (bitOf 4#32 (bucketWord (colChain x1 q) (rowChain x0 k))) (validWord (x3 (ix3 0 q 0)) (x2 (ix3 0 0 k))) fun b => x4 (ix2 h b)

/-- The output block of grid point `i`. -/
def outBlk (i : grid0.Coords) (x0 : Vec F S1x1x512 .i32) (x1 : Vec F S1x512x1 .i32) (x2 : Vec F S1x1x512 .f32)
    (x3 : Vec F S1x512x1 .f32) (x4 : Vec F S16x8 .f32) : Vec F S1x16x64x512 .f32 :=
  fun y => outElt x0 x1 x2 x3 x4 (y 1) (pos i (y 2)) (y 3)

/-- The two tables hold the chains of the parents `x0` (by rows) and `x1` (by columns). -/
def ScrOk (x0 : Vec F S1x1x512 .i32) (x1 : Vec F S1x512x1 .i32) (s0 : Vec F S8x512 .i32) (s1 : Vec F S512x8 .i32) : Prop :=
  (∀ (a : Fin 6) (j : Fin 512), s0 (ix2 (step a) j) = chainRow x0 a (ix2 0 j))
    ∧ ∀ (a : Fin 6) (r : Fin 512), s1 (ix2 r (step a)) = chainCol x1 a (ix2 r 0)

/-- Loads that read the chains give the closed block. -/
theorem heads_eq (i : grid0.Coords) (x0 : Vec F S1x1x512 .i32) (x1 : Vec F S1x512x1 .i32) (x2 : Vec F S1x1x512 .f32)
    (x3 : Vec F S1x512x1 .f32) (x4 : Vec F S16x8 .f32) (c : Fin 6 → Vec F S64x1 .i32) (w : Fin 6 → Vec F S1x512 .i32)
    (q : Vec F S1x64x1 .f32) (b : Fin 16 → Fin 8 → Elt F .f32)
    (hc : ∀ a r, c a (ix2 r 0) = chainCol x1 a (ix2 (pos i r) 0)) (hw : ∀ a j, w a (ix2 0 j) = chainRow x0 a (ix2 0 j))
    (hq : ∀ r, q (ix3 0 r 0) = x3 (ix3 0 (pos i r) 0)) (hb : ∀ h k, b h k = x4 (ix2 h k)) :
    View.canon (Val := Elt F) (s := S1x16x64x512) (e := .f32) (heads (plane0 i c w) (plane1 i c w) (plane2 i c w) (k0_pay43 q x2) b)
      = outBlk i x0 x1 x2 x3 x4 := by
  have er : ∀ r, rowWords i c r = colChain x1 (pos i r) := fun r => by
    funext a
    match a with
    | 0 => rfl
    | a + 1 =>
      show (if h : a < 6 then c ⟨a, h⟩ (ix2 r 0) else 0) = if h : a < 6 then chainCol x1 ⟨a, h⟩ (ix2 (pos i r) 0) else 0
      split
      · exact hc _ _
      · rfl
  have ec : ∀ j, colWords w j = rowChain x0 j := fun j => by
    funext a
    match a with
    | 0 => rfl
    | a + 1 =>
      show (if h : a < 6 then w ⟨a, h⟩ (ix2 0 j) else 0) = if h : a < 6 then chainRow x0 ⟨a, h⟩ (ix2 0 j) else 0
      split
      · exact hw _ _
      · rfl
  funext y
  obtain ⟨h, r, j, rfl⟩ : ∃ (h : Fin 16) (r : Fin 64) (j : Fin 512), y = ix4 0 h r j := by
    refine ⟨y 1, y 2, y 3, funext fun a => ?_⟩
    match a with
    | 0 => exact Fin.ext (Nat.lt_one_iff.mp (y 0).isLt)
    | 1 => rfl
    | 2 => rfl
    | 3 => rfl
  obtain ⟨h0, h1, h2⟩ := planes_apply i c w (ix2 r j)
  rw [canon_heads, h0, h1, h2, valid_apply, bucketBlk_apply, er, ec, hq, funext (hb h)]
  rfl

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

/-- A later tile's stores leave the closed block, when the tables hold the chains. -/
theorem later_read (hc0 : ¬ firstTile i) (hs : ScrOk x0 x1 s0 s1) (f : arg7.view.ty.Contents (Elt F)) :
    arg7.view.read (Elt F) (arg7.view.writes (Elt F) f
        (runLater c i arg2 harg2 arg3 harg3 arg4 harg4 arg5 harg5 arg6 harg6 arg7 harg7 arg8 harg8 arg9 harg9 x0 x1 x2 x3 x4 s0 s1 hc0).1)
      = outBlk i x0 x1 x2 x3 x4 := by
  obtain ⟨h0, h1, h2⟩ := runLater_planes c i arg8 harg8 arg9 harg9 s0 s1
  rw [runLater_heads c i arg2 harg2 arg3 harg3 arg4 harg4 arg5 harg5 arg6 harg6 arg7 harg7 arg8 harg8 arg9 harg9 x0 x1 x2 x3 x4 s0 s1 hc0, h0, h1, h2, View.read_writes_eq_canon _ _ _ (heads_cover _ _ _ _ _), kLoad_eq]
  refine heads_eq i x0 x1 x2 x3 x4 _ _ _ _ (fun a r => ?_) (fun a j => ?_) (qLoad_apply i arg5 harg5 x3) (biasLoads_apply arg6 harg6 x4)
  · rw [colsLater_apply, hs.2]
  · rw [rowsLater_apply, hs.1]

/-- A first tile's stores leave the closed block. -/
theorem first_read (hc0 : firstTile i) (f : arg7.view.ty.Contents (Elt F)) :
    arg7.view.read (Elt F) (arg7.view.writes (Elt F) f
        (runFirst c i arg2 harg2 arg3 harg3 arg4 harg4 arg5 harg5 arg6 harg6 arg7 harg7 arg8 harg8 arg9 harg9 x0 x1 x2 x3 x4 s0 s1 hc0).2.2.1)
      = outBlk i x0 x1 x2 x3 x4 := by
  obtain ⟨h0, h1, h2⟩ := runFirst_planes c i arg2 harg2 arg3 harg3 arg8 arg9 harg9 x0 x1 s1
  rw [runFirst_heads c i arg2 harg2 arg3 harg3 arg4 harg4 arg5 harg5 arg6 harg6 arg7 harg7 arg8 harg8 arg9 harg9 x0 x1 x2 x3 x4 s0 s1 hc0, h0, h1, h2, View.read_writes_eq_canon _ _ _ (heads_cover _ _ _ _ _), kLoad_eq]
  exact heads_eq i x0 x1 x2 x3 x4 _ _ _ _ (fun a r => colsFirst_apply c i arg3 harg3 arg9 harg9 x1 s1 a r)
    (fun a j => rowsFirst_apply c arg2 harg2 arg8 x0 a j) (qLoad_apply i arg5 harg5 x3) (biasLoads_apply arg6 harg6 x4)

/-- The stores of the two tables leave them holding the chains. -/
theorem scr_of_stores (L8 : Writes F S8x512 .i32) (L9 : Writes F S512x8 .i32) (e0 : L8 = rowStores (chainRow x0))
    (e1 : L9 = colStores (chainCol x1)) (f0 : arg8.view.ty.Contents (Elt F)) (f1 : arg9.view.ty.Contents (Elt F)) :
    ScrOk x0 x1 (arg8.view.read (Elt F) (arg8.view.writes (Elt F) f0 L8)) (arg9.view.read (Elt F) (arg9.view.writes (Elt F) f1 L9)) := by
  subst e0 e1
  exact ⟨fun a j => (View.read_writes_apply_eq_canon arg8.view f0 _ _ (rowStores_cover _ a j)).trans (canon_rowStores _ a j),
    fun a r => (View.read_writes_apply_eq_canon arg9.view f1 _ _ (colStores_cover _ a r)).trans (canon_colStores _ a r)⟩

/-- A first tile leaves the tables holding the chains. -/
theorem first_scr (hc0 : firstTile i) (f0 : arg8.view.ty.Contents (Elt F)) (f1 : arg9.view.ty.Contents (Elt F)) :
    ScrOk x0 x1
      (arg8.view.read (Elt F) (arg8.view.writes (Elt F) f0
        (runFirst c i arg2 harg2 arg3 harg3 arg4 harg4 arg5 harg5 arg6 harg6 arg7 harg7 arg8 harg8 arg9 harg9 x0 x1 x2 x3 x4 s0 s1 hc0).1))
      (arg9.view.read (Elt F) (arg9.view.writes (Elt F) f1
        (runFirst c i arg2 harg2 arg3 harg3 arg4 harg4 arg5 harg5 arg6 harg6 arg7 harg7 arg8 harg8 arg9 harg9 x0 x1 x2 x3 x4 s0 s1 hc0).2.1)) := by
  have e0 : (runFirst c i arg2 harg2 arg3 harg3 arg4 harg4 arg5 harg5 arg6 harg6 arg7 harg7 arg8 harg8 arg9 harg9 x0 x1 x2 x3 x4 s0 s1 hc0).1
      = rowStores (chainRow x0) := (show _ = runFirst.sl.HS0_6 c arg2 harg2 x0 by unfold runFirst; rfl).trans (rowStores_eq c arg2 harg2 x0)
  have e1 : (runFirst c i arg2 harg2 arg3 harg3 arg4 harg4 arg5 harg5 arg6 harg6 arg7 harg7 arg8 harg8 arg9 harg9 x0 x1 x2 x3 x4 s0 s1 hc0).2.1
      = colStores (chainCol x1) := (show _ = runFirst.sl.HS1_6 c arg3 harg3 x1 by unfold runFirst; rfl).trans (colStores_eq c arg3 harg3 x1)
  exact scr_of_stores _ _ _ _ _ _ e0 e1 f0 f1

end Cert.KernelIdeal.Bias

end
-- ==== Proof.Triple.lean ====
/- The body's triple at a first and at a later tile, the block it leaves in closed form. -/
module

public import proofs.«01_k».proof.Proof.Block

@[expose] public section

set_option maxRecDepth 16384

noncomputable section

namespace Cert.KernelIdeal.Bias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S1x1x512 .i32) (harg2 : arg2.IsWhole)
  (arg3 : Memref sig .tc .vmem S1x512x1 .i32) (harg3 : arg3.IsWhole)
  (arg4 : Memref sig .tc .vmem S1x1x512 .f32) (harg4 : arg4.IsWhole)
  (arg5 : Memref sig .tc .vmem S1x512x1 .f32) (harg5 : arg5.IsWhole)
  (arg6 : Memref sig .tc .smem S16x8 .f32) (harg6 : arg6.IsWhole)
  (arg7 : Memref sig .tc .vmem S1x16x64x512 .f32) (harg7 : arg7.IsWhole)
  (arg8 : Memref sig .tc .vmem S8x512 .i32) (harg8 : arg8.IsWhole)
  (arg9 : Memref sig .tc .vmem S512x8 .i32) (harg9 : arg9.IsWhole)
  (x0 : Vec F S1x1x512 .i32) (x1 : Vec F S1x512x1 .i32) (x2 : Vec F S1x1x512 .f32) (x3 : Vec F S1x512x1 .f32)
  (x4 : Vec F S16x8 .f32) (s0 : Vec F S8x512 .i32) (s1 : Vec F S512x8 .i32)

/-- At a first tile: some writes of the block and of the two tables that leave the closed block and the chains, with the
    body's triple. -/
theorem first_run (hc0 : firstTile i) : ∃ (L8 : Writes F S8x512 .i32) (L9 : Writes F S512x8 .i32) (L : Writes F S1x16x64x512 .f32),
    (∀ f, arg7.view.read (Elt F) (arg7.view.writes (Elt F) f L) = outBlk i x0 x1 x2 x3 x4)
    ∧ (∀ f0 f1, ScrOk x0 x1 (arg8.view.read (Elt F) (arg8.view.writes (Elt F) f0 L8)) (arg9.view.read (Elt F) (arg9.view.writes (Elt F) f1 L9)))
    ∧ ∀ (E : Set ℕ) (K : PUnit → sProp 𝕄),
      iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ d, owns (c : Thread nD τ) arg7 fullShare d)
      ∗ owns (c : Thread nD τ) arg8 fullShare s0 ∗ owns (c : Thread nD τ) arg9 fullShare s1
      ∗ (iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ f, View.loc (c : Thread nD τ) arg7.view ↦[arg7.view.set]{fullShare} arg7.view.writes (Elt F) f L)
        ∗ (∃ f, View.loc (c : Thread nD τ) arg8.view ↦[arg8.view.set]{fullShare} arg8.view.writes (Elt F) f L8)
        ∗ (∃ f, View.loc (c : Thread nD τ) arg9.view ↦[arg9.view.set]{fullShare} arg9.view.writes (Elt F) f L9)) -∗ K ⟨⟩))
      ⊢ wp frame (wpE (defs₀ (F := F)) Variants.none c none) E
          (cc0__bias_kernel i arg2 harg2 arg3 harg3 arg4 harg4 arg5 harg5 arg6 harg6 arg7 harg7 arg8 harg8 arg9 harg9) K :=
  ⟨_, _, _, first_read c i arg2 harg2 arg3 harg3 arg4 harg4 arg5 harg5 arg6 harg6 arg7 harg7 arg8 harg8 arg9 harg9 x0 x1 x2 x3 x4 s0 s1 hc0, first_scr c i arg2 harg2 arg3 harg3 arg4 harg4 arg5 harg5 arg6 harg6 arg7 harg7 arg8 harg8 arg9 harg9 x0 x1 x2 x3 x4 s0 s1 hc0, (runFirst c i arg2 harg2 arg3 harg3 arg4 harg4 arg5 harg5 arg6 harg6 arg7 harg7 arg8 harg8 arg9 harg9 x0 x1 x2 x3 x4 s0 s1 hc0).2.2.2⟩

/-- At a later tile, the tables holding the chains: some writes of the block that leave the closed block, with the body's
    triple. -/
theorem later_run (hc0 : ¬ firstTile i) (hs : ScrOk x0 x1 s0 s1) : ∃ L : Writes F S1x16x64x512 .f32,
    (∀ f, arg7.view.read (Elt F) (arg7.view.writes (Elt F) f L) = outBlk i x0 x1 x2 x3 x4)
    ∧ ∀ (E : Set ℕ) (K : PUnit → sProp 𝕄),
      iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ d, owns (c : Thread nD τ) arg7 fullShare d)
      ∗ owns (c : Thread nD τ) arg8 fullShare s0 ∗ owns (c : Thread nD τ) arg9 fullShare s1
      ∗ (iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ f, View.loc (c : Thread nD τ) arg7.view ↦[arg7.view.set]{fullShare} arg7.view.writes (Elt F) f L)
        ∗ owns (c : Thread nD τ) arg8 fullShare s0 ∗ owns (c : Thread nD τ) arg9 fullShare s1) -∗ K ⟨⟩))
      ⊢ wp frame (wpE (defs₀ (F := F)) Variants.none c none) E
          (cc0__bias_kernel i arg2 harg2 arg3 harg3 arg4 harg4 arg5 harg5 arg6 harg6 arg7 harg7 arg8 harg8 arg9 harg9) K :=
  ⟨_, later_read c i arg2 harg2 arg3 harg3 arg4 harg4 arg5 harg5 arg6 harg6 arg7 harg7 arg8 harg8 arg9 harg9 x0 x1 x2 x3 x4 s0 s1 hc0 hs, (runLater c i arg2 harg2 arg3 harg3 arg4 harg4 arg5 harg5 arg6 harg6 arg7 harg7 arg8 harg8 arg9 harg9 x0 x1 x2 x3 x4 s0 s1 hc0).2⟩

/-- The body at any tile: from tables that hold the chains unless the tile is a first one, the closed block and tables
    that hold the chains. -/
theorem body_triple (hs : ¬ firstTile i → ScrOk x0 x1 s0 s1) (E : Set ℕ) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ (∃ d, owns (c : Thread nD τ) arg7 fullShare d)
      ∗ owns (c : Thread nD τ) arg8 fullShare s0 ∗ owns (c : Thread nD τ) arg9 fullShare s1
      ∗ (iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare (outBlk i x0 x1 x2 x3 x4)
        ∗ ∃ s0' s1', ⌜ScrOk x0 x1 s0' s1'⌝ ∗ owns (c : Thread nD τ) arg8 fullShare s0' ∗ owns (c : Thread nD τ) arg9 fullShare s1') -∗ K ⟨⟩))
      ⊢ wp frame (wpE (defs₀ (F := F)) Variants.none c none) E
          (cc0__bias_kernel i arg2 harg2 arg3 harg3 arg4 harg4 arg5 harg5 arg6 harg6 arg7 harg7 arg8 harg8 arg9 harg9) K := by
  by_cases hc0 : firstTile i
  · obtain ⟨L8, L9, L, hL, hS, hrun⟩ := first_run c i arg2 harg2 arg3 harg3 arg4 harg4 arg5 harg5 arg6 harg6 arg7 harg7 arg8 harg8 arg9 harg9 x0 x1 x2 x3 x4 s0 s1 hc0
    iintro ⟨H0, H1, H2, H3, H4, H5, HS0, HS1, HK⟩
    iapply (hrun E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, ⟨%f, H5⟩, ⟨%f0, HS0⟩, ⟨%f1, HS1⟩⟩
    iapply HK
    isplitl [H0]; · iexact H0
    isplitl [H1]; · iexact H1
    isplitl [H2]; · iexact H2
    isplitl [H3]; · iexact H3
    isplitl [H4]; · iexact H4
    isplitl [H5]
    · unfold owns; iexists _; isplitr; · ipureintro; exact hL f
      iexact H5
    iexists _; iexists _
    isplitr
    · ipureintro; exact hS f0 f1
    isplitl [HS0]
    · unfold owns; iexists _; isplitr; · ipureintro; rfl
      iexact HS0
    · unfold owns; iexists _; isplitr; · ipureintro; rfl
      iexact HS1
  · obtain ⟨L, hL, hrun⟩ := later_run c i arg2 harg2 arg3 harg3 arg4 harg4 arg5 harg5 arg6 harg6 arg7 harg7 arg8 harg8 arg9 harg9 x0 x1 x2 x3 x4 s0 s1 hc0 (hs hc0)
    iintro ⟨H0, H1, H2, H3, H4, H5, HS0, HS1, HK⟩
    iapply (hrun E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, ⟨%f, H5⟩, HS0, HS1⟩
    iapply HK
    isplitl [H0]; · iexact H0
    isplitl [H1]; · iexact H1
    isplitl [H2]; · iexact H2
    isplitl [H3]; · iexact H3
    isplitl [H4]; · iexact H4
    isplitl [H5]
    · unfold owns; iexists _; isplitr; · ipureintro; exact hL f
      iexact H5
    iexists s0; iexists s1
    isplitr
    · ipureintro; exact hs hc0
    isplitl [HS0]
    · iexact HS0
    · iexact HS1

end Cert.KernelIdeal.Bias

end
-- ==== Proof.Entry.lean ====
/- What each input window's block holds at a grid point, in terms of the launch arguments. -/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Bias

open Idealize.ShloMosaic Idealize.ShloMosaic.TcCoe Idealize.SL.Sem
open Cert.KernelIdeal.Gen

variable {F : FTy → Type} [FloatOps F]
variable (m : (ℓ : Loc nD τ sig) → Buf (Elt F) ℓ)

/-- The batch row of a grid point. -/
def bat (t : Fin cfg0.N) : Fin 8 := ⟨t.val / 8, by have h : t.val < 64 := lt_of_lt_of_eq t.isLt N_0; omega⟩

/-- Batch row `b` of the parents, as a row and as a column. -/
def parRow (a : Vec F S8x512 .i32) (b : Fin 8) : Vec F S1x1x512 .i32 := fun y => a (ix2 b (y 2))
def parCol (a : Vec F S8x512 .i32) (b : Fin 8) : Vec F S1x512x1 .i32 := fun y => a (ix2 b (y 1))

/-- Batch row `b` of the mask as numbers, as a row and as a column. -/
def padRow (a : Vec F S8x512 .i1) (b : Fin 8) : Vec F S1x1x512 .f32 := fun y => FloatOps.uitofp .f32 (a (ix2 b (y 2)))
def padCol (a : Vec F S8x512 .i1) (b : Fin 8) : Vec F S1x512x1 .f32 := fun y => FloatOps.uitofp .f32 (a (ix2 b (y 1)))

/-- The windows' block indices at point `t`: the batch row, and for the output the tile too. -/
theorem idx (t : Fin cfg0.N) : win0_0.index t = ![(bat t).val, 0, 0] ∧ win0_1.index t = ![(bat t).val, 0, 0]
    ∧ win0_2.index t = ![(bat t).val, 0, 0] ∧ win0_3.index t = ![(bat t).val, 0, 0] ∧ win0_4.index t = ![0, 0]
    ∧ win0_5.index t = ![(bat t).val, 0, t.val % 8, 0] := by
  revert t; decide +kernel

theorem iblk0_eq (c : Dev nD) (t : Fin cfg0.N) : iblk m c 0 t = parRow (m ((c : Thread nD τ).loc main_arg0)) (bat t) := by
  funext y
  idx_vars y
  blk_ext! [iblk, V, idx t]

theorem iblk1_eq (c : Dev nD) (t : Fin cfg0.N) : iblk m c 1 t = parCol (m ((c : Thread nD τ).loc main_arg0)) (bat t) := by
  funext y
  idx_vars y
  blk_ext! [iblk, V, idx t]

theorem iblk2_eq (c : Dev nD) (t : Fin cfg0.N) : iblk m c 2 t = padRow (m ((c : Thread nD τ).loc main_arg1)) (bat t) := by
  funext y
  idx_vars y
  have h : iblk m c 2 t (ix3 y0 y1 y2) = V m c main_v3 (ix3 (bat t) 0 y2) := by blk_ext [iblk, idx t]
  rw [h]
  entry_read
  pointwise [padRow]

theorem iblk3_eq (c : Dev nD) (t : Fin cfg0.N) : iblk m c 3 t = padCol (m ((c : Thread nD τ).loc main_arg1)) (bat t) := by
  funext y
  idx_vars y
  have h : iblk m c 3 t (ix3 y0 y1 y2) = V m c main_v5 (ix3 (bat t) y1 0) := by blk_ext [iblk, idx t]
  rw [h]
  entry_read
  pointwise [padCol]

theorem iblk4_eq (c : Dev nD) (t : Fin cfg0.N) : iblk m c 4 t = m ((c : Thread nD τ).loc main_arg2) := by
  funext y
  idx_vars y
  blk_ext! [iblk, V, idx t]

end Cert.KernelIdeal.Bias

end
-- ==== Proof.Region.lean ====
/- The kernel's run: the pipeline's proof data with the two tables of chains carried from tile to tile, the body's
   obligation at every point, and the launch. -/
module

public import proofs.«01_k».proof.Proof.Triple
public import proofs.«01_k».proof.Proof.Entry

@[expose] public section

set_option maxRecDepth 16384

noncomputable section

namespace Cert.KernelIdeal.Bias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two tables, as the kernel is handed them. -/
abbrev tabR : Memref sig .tc .vmem S8x512 .i32 := Memref.whole cc0_scratch0
abbrev tabC : Memref sig .tc .vmem S512x8 .i32 := Memref.whole cc0_scratch1

/-- What the tables hold before point `k`: within a batch row, the chains of that row's parents. -/
def Inside (c : Dev nD) (k : ℕ) (s0 : Vec F S8x512 .i32) (s1 : Vec F S512x8 .i32) : Prop :=
  ∀ t : Fin cfg0.N, t.val = k → t.val % 8 ≠ 0 → ScrOk (iblk m c 0 t) (iblk m c 1 t) s0 s1

/-- The tables that hold a point's chains hold the next point's, unless that one starts a batch row. -/
theorem inside_succ (c : Dev nD) (t : Fin cfg0.N) (s0 : Vec F S8x512 .i32) (s1 : Vec F S512x8 .i32)
    (h : ScrOk (iblk m c 0 t) (iblk m c 1 t) s0 s1) : Inside m c (t.val + 1) s0 s1 := by
  intro t' e hm
  have hb : bat t' = bat t := Fin.ext (by show t'.val / 8 = t.val / 8; omega)
  rw [iblk0_eq, iblk1_eq, hb, ← iblk0_eq, ← iblk1_eq]
  exact h

/-- The invariant between points: the tables, tracked, and the generator's register. -/
def Phi (c : Dev nD) (k : ℕ) : sProp 𝕄 :=
  iprop((∃ s0 s1, ⌜Inside m c k s0 s1⌝ ∗ owns (c : Thread nD τ) tabR fullShare s0 ∗ owns (c : Thread nD τ) tabC fullShare s1)
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ k := Phi m c k.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlk (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 1600000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after_0, after_1, after_2, after_3, after_4, after_5]
  unfold Phi
  iintro ⟨⟨⟨%s0, %s1, %hin, HS0, HS1⟩, Hg⟩, Ho, ⟨%d0, H0⟩, ⟨%d1, H1⟩, ⟨%d2, H2⟩, ⟨%d3, H3⟩, ⟨%d4, H4⟩, ⟨%d5, H5⟩⟩
  have hs : ¬ firstTile (grid0.coords t) → ScrOk (iblk m c 0 t) (iblk m c 1 t) s0 s1 := fun h => hin t rfl fun h0 => h ((firstTile_iff t).mpr h0)
  iapply (body_triple c (grid0.coords t) _ _ _ _ _ _ _ _ _ _ _ _ _ _ _ _ (iblk m c 0 t) (iblk m c 1 t) (iblk m c 2 t) (iblk m c 3 t) (iblk m c 4 t) s0 s1 hs Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, ⟨%s0', %s1', %hs', HS0, HS1⟩⟩
  isplitl [HS0 HS1 Hg]
  · isplitl [HS0 HS1]
    · iexists s0'; iexists s1'
      isplitr
      · ipureintro; exact inside_succ m c t s0' s1' hs'
      isplitl [HS0]
      · iexact HS0
      · iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scoped rest is the two tables at some contents, and the generator's register. -/
theorem rest_eq (c : Dev nD) :
    (Pipeline.ΦA spec0 c : sProp 𝕄)
      = iprop(iprop((∃ d, owns (c : Thread nD τ) tabR fullShare d) ∗ (∃ d, owns (c : Thread nD τ) tabC fullShare d)) ∗ (∃ r, prngReg c r)) := by
  unfold Pipeline.ΦA; rw [scopedRest0_eq]; simp only [tabR, tabC, owns_whole]; try rfl

theorem enter (c : Dev nD) : (Pipeline.ΦA spec0 c : sProp 𝕄) ⊢ (dats m 0 c).Φ 0 := by
  rw [rest_eq, show (dats m 0 c).Φ 0 = Phi m c 0 from rfl]
  unfold Phi
  iintro ⟨⟨⟨%s0, HS0⟩, ⟨%s1, HS1⟩⟩, Hg⟩
  isplitl [HS0 HS1]
  · iexists s0; iexists s1
    isplitr
    · ipureintro
      exact fun t e h => absurd (by rw [e]) h
    isplitl [HS0]
    · iexact HS0
    · iexact HS1
  iexact Hg

theorem leave (c : Dev nD) : (dats m 0 c).Φ (Fin.last cfg0.N) ⊢ (Pipeline.ΦA spec0 c : sProp 𝕄) := by
  rw [rest_eq, show (dats m 0 c).Φ (Fin.last cfg0.N) = Phi m c (Fin.last cfg0.N).val from rfl]
  unfold Phi
  iintro ⟨⟨%s0, %s1, -, HS0, HS1⟩, Hg⟩
  isplitl [HS0 HS1]
  · isplitl [HS0]
    · iexists s0; iexact HS0
    · iexists s1; iexact HS1
  iexact Hg

set_option backward.isDefEq.respectTransparency.types false in
/-- THE LAUNCH: every execution ends, the arrays at the proof data's contents, the rest as the region found it, every
    counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Bias

end
-- ==== Proof.Words.lean ====
/- The frame of the kernel at machine words: the kernel and its ideal program are one text over one machine, so the run
   proved of the latter at any values is the former's at machine words. -/
module

public import proofs.«01_k».proof.Defs
public import proofs.«01_k».proof.Proof.Region
public import proofs.«01_k».proof.Proof.Gen.Kernel

@[expose] public section

set_option maxRecDepth 65536
set_option maxHeartbeats 1000000

noncomputable section

namespace Cert.Kernel.Bias

open Idealize.ShloMosaic Idealize.ShloMosaic.TcCoe Idealize.SL.Sem
open Cert.Kernel.Gen

/-- The two programs have one kernel body, -/
theorem body_eq : @Cert.Kernel.cc0__bias_kernel Bits _ _ = @Cert.KernelIdeal.cc0__bias_kernel Bits _ _ := rfl

/-- one table of bodies, -/
theorem defs₀_eq : Cert.Kernel.defs₀ (F := Bits) = Cert.KernelIdeal.defs₀ := by
  unfold Cert.Kernel.defs₀ Cert.KernelIdeal.defs₀
  congr 1
  funext l x
  match l, x with
  | 0, (t, s) =>
    dsimp only
    rw [body_eq]
    rfl

/-- one table of bodies and pipelines, -/
theorem defs_eq : Cert.Kernel.defs (F := Bits) = Cert.KernelIdeal.defs := by
  unfold Cert.Kernel.defs Cert.KernelIdeal.defs
  rw [defs₀_eq]
  rfl

/-- and one host program. -/
theorem main_eq : Cert.Kernel.main (F := Bits) = Cert.KernelIdeal.main := rfl

/-- The kernel runs at machine words, leaves its arguments as they were and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Bias.frame (F := Bits) m ρ

end Cert.Kernel.Bias

end
-- ==== Proof.Array.lean ====
/- The kernel's result array: every element in closed form. -/
module

public import proofs.«01_k».proof.Proof.Region
public import Idealize.ShloMosaic.Lib.Pipeline.ValueKit

@[expose] public section

set_option maxRecDepth 16384

noncomputable section

namespace Cert.KernelIdeal.Bias

open Idealize.ShloMosaic Idealize.ShloMosaic.TcCoe Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- The result from the three arguments: batch row `y 0`, head `y 1`, query position `y 2`, key position `y 3`. -/
def result (a0 : Vec F S8x512 .i32) (a1 : Vec F S8x512 .i1) (a2 : Vec F S16x8 .f32) : Vec F S8x16x512x512 .f32 :=
  fun y => outElt (parRow a0 (y 0)) (parCol a0 (y 0)) (padRow a1 (y 0)) (padCol a1 (y 0)) a2 (y 1) (y 2) (y 3)

/-- The tile of a grid point. -/
theorem tile_val (t : Fin cfg0.N) : ((grid0.coords t) 1).val = t.val % 8 := by
  revert t; decide +kernel

/-- THE ARRAY the kernel leaves. -/
theorem final (c : Dev nD) : (dats m 0 c).arrAt 5 cfg0.N
    = result (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after_5, iblk0_eq, iblk1_eq, iblk2_eq, iblk3_eq, iblk4_eq]
  have e0 : ((win0_5.blk t).view.emb y) 0 = bat t := Fin.ext (by blk_simp [idx])
  have e1 : ((win0_5.blk t).view.emb y) 1 = y 1 := Fin.ext (by blk_simp [idx])
  have e2 : ((win0_5.blk t).view.emb y) 2 = pos (grid0.coords t) (y 2) := Fin.ext (by
    have := tile_val t
    show _ = 64 * ((grid0.coords t) 1).val + (y 2).val
    blk_simp [idx]; omega)
  have e3 : ((win0_5.blk t).view.emb y) 3 = y 3 := Fin.ext (by blk_simp [idx])
  unfold result outBlk
  dsimp only
  rw [e0, e1, e2, e3]

/-- THE VALUE THEOREM of the kernel: every run leaves the closed form in the result array, and the arguments as they were. -/
theorem value : θ_run defs (onTc main) (s₀ m ρ) fun r => ∀ c : Dev nD,
    r.2.mem ((c : Thread nD τ).loc main_v6)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r ⟨h, ha⟩ c => ⟨((h.1 c).1 5).trans (final m c), ha.1 c⟩) (θ_run_and (run_main m ρ) (frame m ρ))

end Cert.KernelIdeal.Bias

end
-- ==== Proof.Tree.lean ====
/- Distances in the graph that joins each position to its parent: the pairs reached within a number of steps, in terms
   of the two chains of parents, and the bucket of a pair. -/
module

public import Idealize.ShloMosaic.Lib.Pointwise

@[expose] public section

namespace Cert.Tree

variable {ι : Type} (f : ι → ι)

/-- Two different positions are joined when one is the other's parent. -/
def Joined (i j : ι) : Prop := (f i = j ∨ f j = i) ∧ i ≠ j

/-- The pairs at most `s` joins apart. -/
def Near : ℕ → ι → ι → Prop
  | 0, i, j => i = j
  | s + 1, i, j => Near s i j ∨ ∃ k, Near s i k ∧ Joined f k j

/-- Two positions are at most `s` joins apart just when they have a common ancestor, `a` steps above the one and `b`
    above the other, with `a + b` at most `s`. -/
theorem near_iff (s : ℕ) (i j : ι) : Near f s i j ↔ ∃ a b, a + b ≤ s ∧ f^[a] i = f^[b] j := by
  induction s generalizing j with
  | zero =>
    constructor
    · rintro rfl; exact ⟨0, 0, le_refl _, rfl⟩
    · rintro ⟨a, b, h, e⟩
      obtain ⟨rfl, rfl⟩ : a = 0 ∧ b = 0 := by omega
      exact e
  | succ s ih =>
    constructor
    · rintro (h | ⟨k, h, hk, -⟩)
      · obtain ⟨a, b, hs, e⟩ := (ih j).mp h
        exact ⟨a, b, by omega, e⟩
      · obtain ⟨a, b, hs, e⟩ := (ih k).mp h
        rcases hk with rfl | rfl
        · cases b with
          | zero => exact ⟨a + 1, 0, by omega, by rw [Function.iterate_succ_apply', e]; rfl⟩
          | succ b => exact ⟨a, b, by omega, by rw [e, Function.iterate_succ_apply]⟩
        · exact ⟨a, b + 1, by omega, by rw [e, Function.iterate_succ_apply]⟩
    · rintro ⟨a, b, hs, e⟩
      cases b with
      | zero =>
        cases a with
        | zero => exact Or.inl ((ih j).mpr ⟨0, 0, by omega, e⟩)
        | succ a =>
          have e' : f (f^[a] i) = j := (Function.iterate_succ_apply' f a i).symm.trans e
          by_cases hk : f^[a] i = j
          · exact Or.inl ((ih j).mpr ⟨a, 0, by omega, hk⟩)
          · exact Or.inr ⟨f^[a] i, (ih _).mpr ⟨a, 0, by omega, rfl⟩, Or.inl e', hk⟩
      | succ b =>
        rw [Function.iterate_succ_apply] at e
        by_cases hk : f j = j
        · exact Or.inl ((ih j).mpr ⟨a, b, by omega, by rw [e, hk]⟩)
        · exact Or.inr ⟨f j, (ih _).mpr ⟨a, b, by omega, e⟩, Or.inr rfl, hk⟩

/-- Pairs at most `s` joins apart are at most `s + 1` apart. -/
theorem near_succ {s : ℕ} {i j : ι} (h : Near f s i j) : Near f (s + 1) i j := Or.inl h

/-- `n` is the bucket of a pair: its distance up to six, and seven beyond. -/
def IsBucket (i j : ι) (n : ℕ) : Prop := n ≤ 7 ∧ ∀ s ≤ 6, n ≤ s ↔ Near f s i j

/-- A pair has one bucket. -/
theorem IsBucket.unique {i j : ι} {n m : ℕ} (hn : IsBucket f i j n) (hm : IsBucket f i j m) : n = m := by
  obtain ⟨h7, h⟩ := hn
  obtain ⟨h7', h'⟩ := hm
  rcases lt_trichotomy n m with hlt | he | hlt
  · have := (h' n (by omega)).mpr ((h n (by omega)).mp le_rfl); omega
  · exact he
  · have := (h m (by omega)).mpr ((h' m (by omega)).mp le_rfl); omega

/-- Tests in descending order of their values, each success overwriting the value found so far: the outcome is at most
    `s` just when the start is, or a test of value at most `s` succeeds. -/
theorem foldl_le_iff {τ : Type} (v : τ → ℕ) (P : τ → Prop) [DecidablePred P] (s : ℕ) (l : List τ) (b : ℕ)
    (hd : l.Pairwise fun p q => v q ≤ v p) (hb : ∀ p ∈ l, v p ≤ b) :
    l.foldl (fun b p => if P p then v p else b) b ≤ s ↔ b ≤ s ∨ ∃ p ∈ l, v p ≤ s ∧ P p := by
  induction l generalizing b with
  | nil => simp
  | cons p l ih =>
    obtain ⟨h1, h2⟩ := List.pairwise_cons.mp hd
    rw [List.foldl_cons, ih _ h2 (fun q hq => by split; exact h1 q hq; exact hb q (List.mem_cons_of_mem _ hq))]
    have hp := hb p List.mem_cons_self
    by_cases hP : P p
    · rw [if_pos hP]
      constructor
      · rintro (h | ⟨q, hq, h⟩)
        · exact Or.inr ⟨p, List.mem_cons_self, h, hP⟩
        · exact Or.inr ⟨q, List.mem_cons_of_mem _ hq, h⟩
      · rintro (h | ⟨q, hq, h⟩)
        · exact Or.inl (by omega)
        · rcases List.mem_cons.mp hq with rfl | hq
          · exact Or.inl h.1
          · exact Or.inr ⟨q, hq, h⟩
    · rw [if_neg hP]
      constructor
      · rintro (h | ⟨q, hq, h⟩)
        · exact Or.inl h
        · exact Or.inr ⟨q, List.mem_cons_of_mem _ hq, h⟩
      · rintro (h | ⟨q, hq, h⟩)
        · exact Or.inl h
        · rcases List.mem_cons.mp hq with rfl | hq
          · exact absurd h.2 hP
          · exact Or.inr ⟨q, hq, h⟩

end Cert.Tree

end
-- ==== Proof.Steps.lean ====
/- The kernel's chains of parents at the ideal values: each product with a one-hot matrix picks the parent of the
   position reached so far. -/
module

public import proofs.«01_k».proof.Proof.Block
public import proofs.«01_k».proof.Proof.Entry
public import proofs.«01_k».proof.Proof.Tree
public import Idealize.ShloMosaic.Lib.KernelVsHost
public import Idealize.ShloMosaic.Lib.StableHlo.Predicate

@[expose] public section

set_option maxRecDepth 16384

noncomputable section

namespace Cert.KernelIdeal.Bias

open Idealize.ShloMosaic Idealize.ShloMosaic.TcCoe Idealize.SL.Sem
open Cert.KernelIdeal.Gen

/-- The real one where a comparison of two position words succeeds, else zero. -/
theorem oneHot_word (k g : Fin 512) :
    (Scalar.sitofp (F := Ideal) .f32 ((IntOp.cmpi .eq (BitVec.ofNat 32 k.val) (BitVec.ofNat 32 g.val)).setWidth 32) : EReal)
      = if k = g then 1 else 0 := by
  have hk := k.isLt; have hg := g.isLt
  by_cases h : k = g
  · subst h
    rw [if_pos rfl, StableHlo.Predicate.cmpi_eq_iff.mpr rfl]
    show ((((1#1).setWidth 32).toInt : ℝ) : EReal) = 1
    norm_num
  · have h0 : IntOp.cmpi .eq (BitVec.ofNat 32 k.val) (BitVec.ofNat 32 g.val) = 0#1 := by
      rcases BitVec.eq_zero_or_eq_one (IntOp.cmpi .eq (BitVec.ofNat 32 k.val) (BitVec.ofNat 32 g.val)) with e | e
      · exact e
      · have e' := congrArg BitVec.toNat (StableHlo.Predicate.cmpi_eq_iff.mp e)
        rw [BitVec.toNat_ofNat, BitVec.toNat_ofNat] at e'
        exact absurd (Fin.ext (by omega)) h
    rw [if_neg h, h0]
    show ((((0#1).setWidth 32).toInt : ℝ) : EReal) = 0
    norm_num

/-- A small number converted to a float and back. -/
theorem fptosi_word (n : Fin 512) :
    Ideal.fptosi 32 (Scalar.sitofp (F := Ideal) .f32 (BitVec.ofNat 32 n.val) : EReal) = BitVec.ofNat 32 n.val := by
  have hn := n.isLt
  show Ideal.fptosi 32 ((((BitVec.ofNat 32 n.val).toInt : ℝ)) : EReal) = _
  rw [StableHlo.Predicate.toInt_ofNat_small n.val (by omega)]
  unfold Ideal.fptosi
  rw [Ideal.toIntClamped_coe]
  have h1 : ((n.val : ℤ) : ℝ) = ((n.val : ℤ) : ℝ) := rfl
  rw [if_pos (by positivity), Int.floor_intCast]
  have h2 : max (-((2 ^ (32 - 1) : ℕ) : ℤ)) (min (((2 ^ (32 - 1) : ℕ) : ℤ) - 1) (n.val : ℤ)) = (n.val : ℤ) := by
    norm_num; omega
  rw [h2]
  exact BitVec.ofInt_natCast 32 n.val

/-- A row of words times the one-hot column of a position is the position's word. -/
theorem pick_row (p : Fin 512 → BitVec 32) (f : Fin 512 → Fin 512) (hp : ∀ k, p k = BitVec.ofNat 32 (f k).val) (g : Fin 512) :
    Ideal.fptosi 32 (∑ k : Fin 512, (Scalar.sitofp (F := Ideal) .f32 (p k) : EReal)
        * (Scalar.sitofp (F := Ideal) .f32 ((IntOp.cmpi .eq (BitVec.ofNat 32 k.val) (BitVec.ofNat 32 g.val)).setWidth 32) : EReal))
      = BitVec.ofNat 32 (f g).val := by
  simp only [oneHot_word, mul_ite, mul_one, mul_zero]
  rw [Finset.sum_ite_eq' Finset.univ g, if_pos (Finset.mem_univ g), hp, fptosi_word]

/-- The one-hot row of a position times a column of words is the position's word. -/
theorem pick_col (p : Fin 512 → BitVec 32) (f : Fin 512 → Fin 512) (hp : ∀ k, p k = BitVec.ofNat 32 (f k).val) (g : Fin 512) :
    Ideal.fptosi 32 (∑ k : Fin 512,
        (Scalar.sitofp (F := Ideal) .f32 ((IntOp.cmpi .eq (BitVec.ofNat 32 g.val) (BitVec.ofNat 32 k.val)).setWidth 32) : EReal)
          * (Scalar.sitofp (F := Ideal) .f32 (p k) : EReal))
      = BitVec.ofNat 32 (f g).val := by
  have hc : ∀ k : Fin 512, IntOp.cmpi .eq (BitVec.ofNat 32 g.val) (BitVec.ofNat 32 k.val)
      = IntOp.cmpi .eq (BitVec.ofNat 32 k.val) (BitVec.ofNat 32 g.val) := fun k => by
    simp only [IntOp.cmpi]
    rw [show ((BitVec.ofNat 32 g.val == BitVec.ofNat 32 k.val) = (BitVec.ofNat 32 k.val == BitVec.ofNat 32 g.val)) from BEq.comm]
  simp only [hc, oneHot_word, ite_mul, one_mul, zero_mul]
  rw [Finset.sum_ite_eq' Finset.univ g, if_pos (Finset.mem_univ g), hp, fptosi_word]

/-- One step of the row chain. -/
def stepRow (x0 : Vec Ideal S1x1x512 .i32) (cur : IVec S1x512 32) : IVec S1x512 32 :=
  k0_pay13 (F := Ideal) (k0_pay4 x0)
    (sitofp .f32 (extui 32 (cmpi .eq (broadcastTo S512x512 down broadcasts_S512x1_S512x512) (broadcastTo S512x512 cur broadcasts_S1x512_S512x512)) natLt_1_32))
    zeroRow

/-- One step of the column chain. -/
def stepCol (x1 : Vec Ideal S1x512x1 .i32) (cur : IVec S512x1 32) : IVec S512x1 32 :=
  k0_pay14 (F := Ideal) (k0_pay5 x1) lane cur

variable (x0 : Vec Ideal S1x1x512 .i32) (x1 : Vec Ideal S1x512x1 .i32) (f : Fin 512 → Fin 512)

/-- A row chain's step from the positions `g` gives their parents. -/
theorem stepRow_apply (h0 : ∀ k, x0 (ix3 0 0 k) = BitVec.ofNat 32 (f k).val) (cur : IVec S1x512 32) (g : Fin 512 → Fin 512)
    (hc : ∀ j, cur (ix2 0 j) = BitVec.ofNat 32 (g j).val) (j : Fin 512) :
    stepRow x0 cur (ix2 0 j) = BitVec.ofNat 32 (f (g j)).val := by
  pointwise [stepRow, k0_pay13, k0_pay4, k0_pay2]
  rw [hc]
  exact pick_row _ f h0 (g j)

/-- A column chain's step from the positions `g` gives their parents. -/
theorem stepCol_apply (h1 : ∀ k, x1 (ix3 0 k 0) = BitVec.ofNat 32 (f k).val) (cur : IVec S512x1 32) (g : Fin 512 → Fin 512)
    (hc : ∀ j, cur (ix2 j 0) = BitVec.ofNat 32 (g j).val) (j : Fin 512) :
    stepCol x1 cur (ix2 j 0) = BitVec.ofNat 32 (f (g j)).val := by
  pointwise [stepCol, k0_pay14, k0_pay5, k0_pay3]
  rw [hc]
  exact pick_col _ f h1 (g j)

/-- The row of positions after `n + 1` steps, and the column. -/
def rowIter : ℕ → IVec S1x512 32
  | 0 => k0_pay2 x0
  | n + 1 => stepRow x0 (rowIter n)
def colIter : ℕ → IVec S512x1 32
  | 0 => k0_pay3 x1
  | n + 1 => stepCol x1 (colIter n)

theorem rowIter_apply (h0 : ∀ k, x0 (ix3 0 0 k) = BitVec.ofNat 32 (f k).val) (n : ℕ) (j : Fin 512) :
    rowIter x0 n (ix2 0 j) = BitVec.ofNat 32 (f^[n + 1] j).val := by
  induction n generalizing j with
  | zero =>
    show k0_pay2 x0 (ix2 0 j) = _
    pointwise [k0_pay2]
    exact h0 j
  | succ n ih =>
    rw [Function.iterate_succ_apply']
    exact stepRow_apply x0 f h0 (rowIter x0 n) _ ih j

theorem colIter_apply (h1 : ∀ k, x1 (ix3 0 k 0) = BitVec.ofNat 32 (f k).val) (n : ℕ) (j : Fin 512) :
    colIter x1 n (ix2 j 0) = BitVec.ofNat 32 (f^[n + 1] j).val := by
  induction n generalizing j with
  | zero =>
    show k0_pay3 x1 (ix2 j 0) = _
    pointwise [k0_pay3]
    exact h1 j
  | succ n ih =>
    rw [Function.iterate_succ_apply']
    exact stepCol_apply x1 f h1 (colIter x1 n) _ ih j

/-- A cast between equal shapes reads the same element. -/
theorem castRow_apply (v : IVec S1x512 32) (j : Fin 512) : shapeCast S1x512 v shapeCasts_S1x512_S1x512 (ix2 0 j) = v (ix2 0 j) := by
  pointwise []
theorem castCol_apply (v : IVec S512x1 32) (j : Fin 512) : shapeCast S512x1 v shapeCasts_S512x1_S512x1 (ix2 j 0) = v (ix2 j 0) := by
  pointwise []

/-- The rows the kernel stores are the row chain. -/
theorem chainRow_eq (a : Fin 6) (j : Fin 512) : chainRow x0 a (ix2 0 j) = rowIter x0 a.val (ix2 0 j) := by
  match a with
  | 0 => exact castRow_apply (rowIter x0 0) j
  | 1 => exact castRow_apply (rowIter x0 1) j
  | 2 => exact castRow_apply (rowIter x0 2) j
  | 3 => exact castRow_apply (rowIter x0 3) j
  | 4 => exact castRow_apply (rowIter x0 4) j
  | 5 => exact castRow_apply (rowIter x0 5) j

/-- The columns the kernel stores are the column chain. -/
theorem chainCol_eq (a : Fin 6) (j : Fin 512) : chainCol x1 a (ix2 j 0) = colIter x1 a.val (ix2 j 0) := by
  match a with
  | 0 => exact castCol_apply (colIter x1 0) j
  | 1 => exact castCol_apply (colIter x1 1) j
  | 2 => exact castCol_apply (colIter x1 2) j
  | 3 => exact castCol_apply (colIter x1 3) j
  | 4 => exact castCol_apply (colIter x1 4) j
  | 5 => exact castCol_apply (colIter x1 5) j

/-- After `a` steps, up to six, the row chain holds the `a`-th ancestors. -/
theorem rowChain_eq (h0 : ∀ k, x0 (ix3 0 0 k) = BitVec.ofNat 32 (f k).val) (n : Fin 512) (a : ℕ) (ha : a ≤ 6) :
    rowChain x0 n a = BitVec.ofNat 32 (f^[a] n).val := by
  cases a with
  | zero => rfl
  | succ a =>
    show (if h : a < 6 then chainRow x0 ⟨a, h⟩ (ix2 0 n) else 0) = _
    rw [dif_pos (show a < 6 by omega), chainRow_eq, rowIter_apply x0 f h0]

theorem colChain_eq (h1 : ∀ k, x1 (ix3 0 k 0) = BitVec.ofNat 32 (f k).val) (n : Fin 512) (a : ℕ) (ha : a ≤ 6) :
    colChain x1 n a = BitVec.ofNat 32 (f^[a] n).val := by
  cases a with
  | zero => rfl
  | succ a =>
    show (if h : a < 6 then chainCol x1 ⟨a, h⟩ (ix2 n 0) else 0) = _
    rw [dif_pos (show a < 6 by omega), chainCol_eq, colIter_apply x1 f h1]

/-- Every test compares chains of at most six steps, -/
theorem tests_le : ∀ p ∈ tests, p.2 ≤ p.1 ∧ p.1 ≤ 6 := by decide
/-- the tests run from the largest distance down, -/
theorem tests_desc : tests.Pairwise fun p q => q.1 ≤ p.1 := by decide
/-- and none is left out. -/
theorem tests_mem : ∀ a b : Fin 7, a.val + b.val ≤ 6 → (a.val + b.val, a.val) ∈ tests := by decide

/-- Two position words are equal just when the positions are. -/
theorem cmpi_pos (u v : Fin 512) : IntOp.cmpi .eq (BitVec.ofNat 32 u.val) (BitVec.ofNat 32 v.val) = if u = v then 1#1 else 0#1 := by
  have hu := u.isLt; have hv := v.isLt
  unfold IntOp.cmpi
  by_cases h : u = v
  · subst h; rw [if_pos rfl]; simp
  · rw [if_neg h]
    have : ¬ BitVec.ofNat 32 u.val = BitVec.ofNat 32 v.val := fun e => h (Fin.ext (by
      have e' := congrArg BitVec.toNat e
      rw [BitVec.toNat_ofNat, BitVec.toNat_ofNat] at e'
      omega))
    rw [beq_false_of_ne this]; rfl

/-- The words' cascade of tests is the numbers'. -/
theorem foldl_words (C R : ℕ → BitVec 32) (q k : Fin 512) (hC : ∀ a ≤ 6, C a = BitVec.ofNat 32 (f^[a] q).val)
    (hR : ∀ a ≤ 6, R a = BitVec.ofNat 32 (f^[a] k).val) (l : List (ℕ × ℕ)) (hl : ∀ p ∈ l, p.2 ≤ p.1 ∧ p.1 ≤ 6) (b : ℕ) :
    l.foldl (fun b p => Scalar.select (IntOp.cmpi .eq (C p.2) (R (p.1 - p.2))) (BitVec.ofNat 32 p.1) b) (BitVec.ofNat 32 b)
      = BitVec.ofNat 32 (l.foldl (fun b p => if f^[p.2] q = f^[p.1 - p.2] k then p.1 else b) b) := by
  induction l generalizing b with
  | nil => rfl
  | cons p l ih =>
    have hp := hl p List.mem_cons_self
    rw [List.foldl_cons, List.foldl_cons, ← ih (fun q hq => hl q (List.mem_cons_of_mem _ hq)), hC _ (by omega), hR _ (by omega), cmpi_pos]
    congr 1
    split <;> rfl

/-- The kernel's bucket word is the pair's bucket. -/
theorem bucketWord_spec (C R : ℕ → BitVec 32) (q k : Fin 512) (hC : ∀ a ≤ 6, C a = BitVec.ofNat 32 (f^[a] q).val)
    (hR : ∀ a ≤ 6, R a = BitVec.ofNat 32 (f^[a] k).val) : ∃ n, bucketWord C R = BitVec.ofNat 32 n ∧ Tree.IsBucket f q k n := by
  refine ⟨_, foldl_words f C R q k hC hR tests tests_le 7, ?_, fun s hs => ?_⟩
  · exact (Tree.foldl_le_iff (fun p : ℕ × ℕ => p.1) (fun p => f^[p.2] q = f^[p.1 - p.2] k) 7 tests 7 tests_desc
      (fun p hp => by have := (tests_le p hp).2; omega)).mpr (Or.inl le_rfl)
  · rw [Tree.foldl_le_iff (fun p : ℕ × ℕ => p.1) (fun p => f^[p.2] q = f^[p.1 - p.2] k) s tests 7 tests_desc
      (fun p hp => by have := (tests_le p hp).2; omega), Tree.near_iff]
    constructor
    · rintro (h | ⟨p, hp, h, e⟩)
      · omega
      · have := (tests_le p hp).1
        exact ⟨p.2, p.1 - p.2, by omega, e⟩
    · rintro ⟨a, b, h, e⟩
      exact Or.inr ⟨(a + b, a), tests_mem ⟨a, by omega⟩ ⟨b, by omega⟩ (show a + b ≤ 6 by omega), h, by rw [Nat.add_sub_cancel_left]; exact e⟩

/-- Three bits of a number below eight pick its own entry. -/
theorem pick_bits (n : Fin 8) (v : BitVec 1) (b : Fin 8 → Elt Ideal .f32) :
    pick (F := Ideal) (bitOf 1#32 (BitVec.ofNat 32 n.val)) (bitOf 2#32 (BitVec.ofNat 32 n.val)) (bitOf 4#32 (BitVec.ofNat 32 n.val)) v b
      = Scalar.select v (b n) (FloatOps.ofBits (F := Ideal) .f32 0xFF7FFFFF#32) := by
  match n with
  | 0 => rfl
  | 1 => rfl
  | 2 => rfl
  | 3 => rfl
  | 4 => rfl
  | 5 => rfl
  | 6 => rfl
  | 7 => rfl

/-- A mask bit as a number is above zero just when it is set. -/
theorem bit_pos (v : BitVec 1) :
    FloatOps.cmpf .ogt (FloatOps.uitofp (F := Ideal) .f32 v) (FloatOps.ofBits .f32 0x00000000#32) = v := by
  show Ideal.cmp .ogt ((v.toNat : ℝ) : EReal) (Ideal.ofBits .f32 0x00000000#32) = v
  rw [Ideal.ofBits_zero_f32]
  rcases BitVec.eq_zero_or_eq_one v with rfl | rfl <;> simp [Ideal.cmp]

/-- An element of the kernel's result: the bias of the head at the pair's bucket, where both positions are valid. -/
theorem outElt_eq (a0 : Vec Ideal S8x512 .i32) (a1 : Vec Ideal S8x512 .i1) (a2 : Vec Ideal S16x8 .f32) (b : Fin 8)
    (hf : ∀ k, a0 (ix2 b k) = BitVec.ofNat 32 (f k).val) (h : Fin 16) (q k : Fin 512) (n : Fin 8) (hn : Tree.IsBucket f q k n.val) :
    outElt (parRow a0 b) (parCol a0 b) (padRow a1 b) (padCol a1 b) a2 h q k
      = Scalar.select (IntOp.andi (a1 (ix2 b q)) (a1 (ix2 b k))) (a2 (ix2 h n)) (FloatOps.ofBits (F := Ideal) .f32 0xFF7FFFFF#32) := by
  obtain ⟨m, hm, hb⟩ := bucketWord_spec f (colChain (parCol a0 b) q) (rowChain (parRow a0 b) k) q k
    (colChain_eq (parCol a0 b) f (fun k => hf k) q) (rowChain_eq (parRow a0 b) f (fun k => hf k) k)
  obtain rfl : m = n.val := hb.unique f hn
  unfold outElt
  rw [hm, pick_bits]
  congr 1
  show IntOp.andi (FloatOps.cmpf .ogt (FloatOps.uitofp (F := Ideal) .f32 (a1 (ix2 b q))) _) (FloatOps.cmpf .ogt (FloatOps.uitofp (F := Ideal) .f32 (a1 (ix2 b k))) _) = _
  rw [bit_pos, bit_pos]

end Cert.KernelIdeal.Bias

end
-- ==== Proof.RefOps.lean ====
/- The reference's scatter, gather and one step of its reachability, read at an element. -/
module

public import proofs.«01_k».proof.Proof.Gen.ReferenceIdeal
public import Idealize.ShloMosaic.Lib.Pointwise
public import Idealize.ShloMosaic.Lib.Tactic.CleanTypes
public import Idealize.ShloMosaic.Lib.Routing.OpsSet
public import Idealize.ShloMosaic.Lib.Routing.OpsPair

@[expose] public section

set_option maxRecDepth 16384

noncomputable section

namespace Cert.ReferenceIdeal.Bias

open Idealize.ShloMosaic Idealize.ShloMosaic.TcCoe Idealize.SL.Sem
open Cert.ReferenceIdeal.Gen

/-- The update at batch row `a`, position `b` lands at the element that its three index words name. -/
theorem lands (idx : IVec S8x512x3 32) (a : Fin 8) (b : Fin 512) (i : S8x512x512.Idx) :
    scatter_S8x512x512_S8x512x3_S8x512_n_012_012_2.resultIdx? (ix2 a b) idx = some i
      ↔ ∀ q : Fin 3, (idx (ix3 a b q)).toInt = ((i q).val : Int) := by
  rw [Routing.resultIdx?_eq_some]
  refine forall_congr' fun q => ?_
  have hm : ∀ q : Fin 3, q ∈ scatter_S8x512x512_S8x512x3_S8x512_n_012_012_2.scatterDimsToOperandDims := by decide
  have hw : scatter_S8x512x512_S8x512x3_S8x512_n_012_012_2.window (ix2 a b) q = 0 := by
    unfold ScatterDims.window
    rw [dif_neg]
    revert q; decide
  have hs : scatter_S8x512x512_S8x512x3_S8x512_n_012_012_2.start (ix2 a b) idx q = (idx (ix3 a b q)).toInt := by
    unfold ScatterDims.start
    rw [dif_pos (hm q)]
    congr 2
    funext d
    refine Fin.ext ?_
    match q, d with
    | 0, 0 => rfl
    | 0, 1 => rfl
    | 0, 2 => rfl
    | 1, 0 => rfl
    | 1, 1 => rfl
    | 1, 2 => rfl
    | 2, 0 => rfl
    | 2, 1 => rfl
    | 2, 2 => rfl
  rw [hw, hs]
  simp

/-- Three numbers that name an element. -/
theorem lands_nat (idx : IVec S8x512x3 32) (g : Fin 8 → Fin 512 → Fin 512) (h0 : ∀ a b, idx (ix3 a b 0) = BitVec.ofNat 32 a.val)
    (h1 : ∀ a b, idx (ix3 a b 1) = BitVec.ofNat 32 b.val) (h2 : ∀ a b, idx (ix3 a b 2) = BitVec.ofNat 32 (g a b).val)
    (a a' : Fin 8) (b i j : Fin 512) :
    scatter_S8x512x512_S8x512x3_S8x512_n_012_012_2.resultIdx? (ix2 a b) idx = some (ix3 a' i j) ↔ a = a' ∧ b = i ∧ g a b = j := by
  have l0 := a.isLt; have l1 := b.isLt; have l2 := (g a b).isLt
  rw [lands]
  constructor
  · intro h
    have e0 : _ = ((a'.val : ℕ) : Int) := h 0
    have e1 : _ = ((i.val : ℕ) : Int) := h 1
    have e2 : _ = ((j.val : ℕ) : Int) := h 2
    rw [h0, StableHlo.Predicate.toInt_ofNat_small _ (by omega)] at e0
    rw [h1, StableHlo.Predicate.toInt_ofNat_small _ (by omega)] at e1
    rw [h2, StableHlo.Predicate.toInt_ofNat_small _ (by omega)] at e2
    exact ⟨Fin.ext (by omega), Fin.ext (by omega), Fin.ext (by omega)⟩
  · rintro ⟨rfl, rfl, rfl⟩ q
    match q with
    | 0 => show (idx (ix3 a b 0)).toInt = _; rw [h0, StableHlo.Predicate.toInt_ofNat_small _ (by omega)]; rfl
    | 1 => show (idx (ix3 a b 1)).toInt = _; rw [h1, StableHlo.Predicate.toInt_ofNat_small _ (by omega)]; rfl
    | 2 => show (idx (ix3 a b 2)).toInt = _; rw [h2, StableHlo.Predicate.toInt_ofNat_small _ (by omega)]; rfl

/-- The scatter of ones at each position's parent: the matrix of parents. -/
theorem scatter_parents (z : IVec S8x512x512 1) (idx : IVec S8x512x3 32) (u : IVec S8x512 1) (g : Fin 8 → Fin 512 → Fin 512)
    (hz : ∀ y, z y = 0#1) (hu : ∀ a b, u (ix2 a b) = 1#1) (h0 : ∀ a b, idx (ix3 a b 0) = BitVec.ofNat 32 a.val)
    (h1 : ∀ a b, idx (ix3 a b 1) = BitVec.ofNat 32 b.val) (h2 : ∀ a b, idx (ix3 a b 2) = BitVec.ofNat 32 (g a b).val)
    (b : Fin 8) (i j : Fin 512) :
    Host.scatter scatter_S8x512x512_S8x512x3_S8x512_n_012_012_2 (fun _ b => b) z idx u (ix3 b i j) = 1#1 ↔ g b i = j := by
  have hk : ∀ k : S8x512.Idx, ∃ (a : Fin 8) (c : Fin 512), k = ix2 a c := fun k => ⟨k 0, k 1, by
    funext d
    match d with
    | 0 => rfl
    | 1 => rfl⟩
  constructor
  · intro h
    by_contra hne
    rw [Routing.scatter_set_miss _ _ _ _ _ fun k e => by
      obtain ⟨a, c, rfl⟩ := hk k
      rw [lands_nat idx g h0 h1 h2] at e
      obtain ⟨ea, eb, ej⟩ := e
      exact hne (by rw [← ea, ← eb]; exact ej), hz] at h
    exact absurd h (by decide)
  · intro h
    exact Routing.scatter_set_hit _ _ _ _ _ _ (fun k _ => by obtain ⟨a, c, rfl⟩ := hk k; exact hu _ _) (ix2 b i)
      ((lands_nat idx g h0 h1 h2 b b i i j).mpr ⟨rfl, rfl, h⟩)

/-- The gather of a bias column for every pair: head `h`'s entry at the index word, clamped to the table. -/
theorem gather_bias {α : Type} (x : S16x8.Idx → α) (idx : IVec S8x512x512x1 32) (h : Fin 16) (b : Fin 8) (q k : Fin 512) :
    Host.gather gather_S16x8_S8x512x512x1_S16x8x512x512_0_1_n_n_1_3_161 x idx (ix4 h b q k)
      = x (ix2 h ⟨min (idx (ix4 b q k 0)).toInt.toNat 7, by omega⟩) := by
  unfold Host.gather
  congr 1
  funext a
  refine Fin.ext ?_
  show gather_S16x8_S8x512x512x1_S16x8x512x512_0_1_n_n_1_3_161.start (ix4 h b q k) idx a
      + gather_S16x8_S8x512x512x1_S16x8x512x512_0_1_n_n_1_3_161.batchCoord (ix4 h b q k) a
      + gather_S16x8_S8x512x512x1_S16x8x512x512_0_1_n_n_1_3_161.offCoord (ix4 h b q k) a = _
  rw [GatherDims.batchCoord_eq_zero _ _ _ (show a ∉ ([] : List (Fin 2)) from List.not_mem_nil)]
  match a with
  | 0 =>
    have hs : gather_S16x8_S8x512x512x1_S16x8x512x512_0_1_n_n_1_3_161.start (ix4 h b q k) idx 0 = 0 := by
      unfold GatherDims.start
      rw [dif_neg]
      decide
    rw [hs]
    show 0 + 0 + h.val = h.val
    omega
  | 1 =>
    rw [GatherDims.offCoord_eq_zero _ _ _ (fun hm => ((GatherDims.mem_sKept _ _).mp hm).1 (List.mem_singleton.mpr rfl))]
    simp only [Nat.add_zero]
    unfold GatherDims.start
    have hm : (1 : Fin 2) ∈ gather_S16x8_S8x512x512x1_S16x8x512x512_0_1_n_n_1_3_161.startIndexMap := List.mem_singleton.mpr rfl
    rw [dif_pos hm]
    have hsi : gather_S16x8_S8x512x512x1_S16x8x512x512_0_1_n_n_1_3_161.siIdx (ix4 h b q k)
        ⟨List.idxOf (1 : Fin 2) gather_S16x8_S8x512x512x1_S16x8x512x512_0_1_n_n_1_3_161.startIndexMap, List.idxOf_lt_length_iff.2 hm⟩ = ix4 b q k 0 := by
      funext d; refine Fin.ext ?_
      match d with
      | 0 => rfl
      | 1 => rfl
      | 2 => rfl
      | 3 => rfl
    rw [hsi]
    rfl

/-- One step of the reachability: what is reached from what a product of the two matrices counts. -/
def grow (x a : IVec S8x512x512 1) : IVec S8x512x512 1 :=
  ori (cmpf .ogt (Host.dotGeneral (F := Ideal) dot_S8x512x512_S8x512x512_S8x512x512_2_1_1_2_0_0 none (uitofp .f32 x) (uitofp .f32 a))
    (broadcastInDim S8x512x512 ![] bcast_S_S8x512x512 (constant S_ .f32 0x00000000#32))) x

/-- A product of two bits as numbers is zero unless both are set. -/
theorem bits_mul (u v : BitVec 1) :
    (FloatOps.uitofp (F := Ideal) .f32 u : EReal) * (FloatOps.uitofp (F := Ideal) .f32 v : EReal) = if u = 1#1 ∧ v = 1#1 then 1 else 0 := by
  show ((u.toNat : ℝ) : EReal) * ((v.toNat : ℝ) : EReal) = _
  rcases BitVec.eq_zero_or_eq_one u with rfl | rfl <;> rcases BitVec.eq_zero_or_eq_one v with rfl | rfl <;> simp

/-- The product counts above zero just when some middle position has both bits. -/
theorem count_pos (u v : Fin 512 → BitVec 1) :
    FloatOps.cmpf .ogt (∑ k, (FloatOps.uitofp (F := Ideal) .f32 (u k) : EReal) * (FloatOps.uitofp (F := Ideal) .f32 (v k) : EReal) : Ideal .f32)
      (0 : EReal) = 1#1 ↔ ∃ k, u k = 1#1 ∧ v k = 1#1 := by
  rw [Ideal.cmpf_def]
  unfold Ideal.cmp
  simp only [bits_mul]
  have hn : ∀ k ∈ (Finset.univ : Finset (Fin 512)), (0 : EReal) ≤ if u k = 1#1 ∧ v k = 1#1 then 1 else 0 := fun k _ => by
    split <;> norm_num
  rw [StableHlo.Predicate.ofBool_eq_one_iff, decide_eq_true_iff, lt_iff_le_and_ne]
  constructor
  · rintro ⟨-, h⟩
    by_contra hne
    refine h (Finset.sum_eq_zero fun k _ => ?_).symm
    rw [if_neg fun hk => hne ⟨k, hk⟩]
  · rintro ⟨k, hk⟩
    refine ⟨Finset.sum_nonneg hn, fun h => ?_⟩
    have := (Finset.sum_eq_zero_iff_of_nonneg hn).mp h.symm k (Finset.mem_univ k)
    rw [if_pos hk] at this
    exact one_ne_zero this

/-- The or of two bits. -/
theorem ori_eq_one (u v : BitVec 1) : IntOp.ori u v = 1#1 ↔ u = 1#1 ∨ v = 1#1 := by revert u v; decide
/-- The and of two bits. -/
theorem andi_eq_one (u v : BitVec 1) : IntOp.andi u v = 1#1 ↔ u = 1#1 ∧ v = 1#1 := by revert u v; decide

/-- A step reaches what was reached, and what is one join from it. -/
theorem grow_apply (x a : IVec S8x512x512 1) (b : Fin 8) (i j : Fin 512) :
    grow x a (ix3 b i j) = 1#1 ↔ x (ix3 b i j) = 1#1 ∨ ∃ k, x (ix3 b i k) = 1#1 ∧ a (ix3 b k j) = 1#1 := by
  pointwise [grow]
  rw [ori_eq_one, or_comm]
  refine or_congr Iff.rfl ?_
  exact count_pos (fun k => x (ix3 b i k)) (fun k => a (ix3 b k j))

end Cert.ReferenceIdeal.Bias

end
-- ==== Proof.RefGraph.lean ====
/- The reference's matrices: its parents, its joins, and what is near in one to eight steps. -/
module

public import proofs.«01_k».proof.Proof.RefOps
public import proofs.«01_k».proof.Proof.Tree
public import proofs.«01_k».proof.Proof.Gen.ReferenceIdeal.Run

@[expose] public section

set_option maxRecDepth 16384

noncomputable section

namespace Cert.ReferenceIdeal.Bias

open Idealize.ShloMosaic Idealize.ShloMosaic.TcCoe Idealize.SL.Sem
open Cert.ReferenceIdeal.Gen Cert.ReferenceIdeal.Value

variable (W : Valuation τ sig (Elt Ideal))

/-- The parents, as the reference receives them. -/
abbrev parents : IVec S8x512 32 := W (Proc.devRef .tc main_arg0)

variable (f : Fin 8 → Fin 512 → Fin 512) (hf : ∀ b k, parents W (ix2 b k) = BitVec.ofNat 32 (f b k).val)

/-- Clipping, the range test and the shift of negative indices, on a word in range. -/
theorem word_in_range (n : Fin 512) :
    IntOp.minsi 511#32 (IntOp.maxsi 0#32 (BitVec.ofNat 32 n.val)) = BitVec.ofNat 32 n.val
    ∧ IntOp.andi (IntOp.cmpi .sge (BitVec.ofNat 32 n.val) 0#32) (IntOp.cmpi .slt (BitVec.ofNat 32 n.val) 512#32) = 1#1
    ∧ IntOp.cmpi .slt (BitVec.ofNat 32 n.val) 0#32 = 0#1 := by
  revert n; decide +kernel

/-- A word in range is not shifted. -/
theorem unshifted (n : ℕ) (hn : n < 512) (a : BitVec 32) :
    Scalar.select (IntOp.cmpi .slt (BitVec.ofNat 32 n) 0#32) a (BitVec.ofNat 32 n) = BitVec.ofNat 32 n := by
  have h := (word_in_range ⟨n, hn⟩).2.2
  dsimp only at h
  rw [h]
  rfl

include hf

/-- Clipping leaves the parents as they are. -/
theorem clipped (b : Fin 8) (k : Fin 512) : res_main_v5 W (ix2 b k) = BitVec.ofNat 32 (f b k).val := by
  have h := hf b k
  unfold parents at h
  unfold res_main_v5
  clean_types
  pointwise
  rw [h]
  exact (word_in_range (f b k)).1

/-- The scattered matrix has a bit where the column is the row's parent. -/
theorem parent_iff (b : Fin 8) (i j : Fin 512) : res_main_v32 W (ix3 b i j) = 1#1 ↔ f b i = j := by
  unfold res_main_v32
  refine scatter_parents _ _ _ f (fun y => ?_) (fun a b => ?_) (fun a b => ?_) (fun a b => ?_) (fun a b => ?_) b i j
  · idx_vars y; pointwise
  · have h := hf a b
    unfold parents at h
    clean_types
    pointwise
    rw [h]
    exact (word_in_range (f a b)).2.1
  · clean_types
    pointwise [res_main_v8]
    exact unshifted a.val (by have := a.isLt; omega) _
  · clean_types
    pointwise [res_main_v10]
    exact unshifted b.val b.isLt _
  · clean_types
    pointwise
    rw [clipped W f hf]
    exact unshifted (f a b).val (f a b).isLt _

omit hf in
/-- The diagonal. -/
theorem diag_iff (i j : Fin 512) : res_main_v39 W (ix2 i j) = 1#1 ↔ i = j := by
  have hi := i.isLt; have hj := j.isLt
  unfold res_main_v39
  clean_types
  pointwise
  rw [StableHlo.Predicate.cmpi_eq_iff, show IntOp.addi (BitVec.ofNat 32 i.val) 0#32 = BitVec.ofNat 32 i.val from BitVec.add_zero _]
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

omit hf in
/-- The complement of a bit. -/
theorem not_bit (u : BitVec 1) : ~~~u = 1#1 ↔ ¬u = 1#1 := by revert u; decide

/-- The joins: a parent on either side, off the diagonal. -/
theorem joined_iff (b : Fin 8) (i j : Fin 512) : res_main_v43 W (ix3 b i j) = 1#1 ↔ Tree.Joined (f b) i j := by
  unfold res_main_v43
  clean_types
  pointwise
  rw [andi_eq_one, ori_eq_one, not_bit, parent_iff W f hf, parent_iff W f hf, diag_iff]
  rfl

/-- The joins and the diagonal: what is near in one step. -/
theorem near_one (b : Fin 8) (i j : Fin 512) : res_main_v49 W (ix3 b i j) = 1#1 ↔ Tree.Near (f b) 1 i j := by
  unfold res_main_v49
  clean_types
  pointwise
  rw [ori_eq_one, joined_iff W f hf, diag_iff]
  simp [Tree.Near, or_comm]

/-- From what is near in `s` steps, what is near in one more. -/
theorem near_grow (x : IVec S8x512x512 1) (s : ℕ) (hx : ∀ b i j, x (ix3 b i j) = 1#1 ↔ Tree.Near (f b) s i j)
    (b : Fin 8) (i j : Fin 512) : grow x (res_main_v43 W) (ix3 b i j) = 1#1 ↔ Tree.Near (f b) (s + 1) i j := by
  rw [grow_apply]
  simp only [hx, joined_iff W f hf, Tree.Near]

/-- What is near in two steps. -/
theorem near_two : ∀ b i j, res_main_v55 W (ix3 b i j) = 1#1 ↔ Tree.Near (f b) 2 i j :=
  near_grow W f hf (res_main_v49 W) 1 (near_one W f hf)
/-- What is near in three steps. -/
theorem near_three : ∀ b i j, res_main_v63 W (ix3 b i j) = 1#1 ↔ Tree.Near (f b) 3 i j :=
  near_grow W f hf (res_main_v55 W) 2 (near_two W f hf)
/-- What is near in four steps. -/
theorem near_four : ∀ b i j, res_main_v71 W (ix3 b i j) = 1#1 ↔ Tree.Near (f b) 4 i j :=
  near_grow W f hf (res_main_v63 W) 3 (near_three W f hf)
/-- What is near in five steps. -/
theorem near_five : ∀ b i j, res_main_v79 W (ix3 b i j) = 1#1 ↔ Tree.Near (f b) 5 i j :=
  near_grow W f hf (res_main_v71 W) 4 (near_four W f hf)
/-- What is near in six steps. -/
theorem near_six : ∀ b i j, res_main_v87 W (ix3 b i j) = 1#1 ↔ Tree.Near (f b) 6 i j :=
  near_grow W f hf (res_main_v79 W) 5 (near_five W f hf)
/-- What is near in seven steps. -/
theorem near_seven : ∀ b i j, res_main_v95 W (ix3 b i j) = 1#1 ↔ Tree.Near (f b) 7 i j :=
  near_grow W f hf (res_main_v87 W) 6 (near_six W f hf)

end Cert.ReferenceIdeal.Bias

end
-- ==== Proof.RefValue.lean ====
/- The reference's bucket and its result, at the ideal values, in closed form. -/
module

public import proofs.«01_k».proof.Proof.RefGraph

@[expose] public section

set_option maxRecDepth 16384

noncomputable section

namespace Cert.ReferenceIdeal.Bias

open Idealize.ShloMosaic Idealize.ShloMosaic.TcCoe Idealize.SL.Sem
open Cert.ReferenceIdeal.Gen Cert.ReferenceIdeal.Value

/-- The bucket word of a pair, from its bits: the diagonal, the joins, and what is near in one to eight steps. -/
def bucketBits (e a r1 r2 r3 r4 r5 r6 r7 r8 : BitVec 1) : BitVec 32 :=
  IntOp.minsi (IntOp.minsi (Scalar.select (IntOp.andi r8 (~~~r7)) 8#32 (Scalar.select (IntOp.andi r7 (~~~r6)) 7#32
    (Scalar.select (IntOp.andi r6 (~~~r5)) 6#32 (Scalar.select (IntOp.andi r5 (~~~r4)) 5#32 (Scalar.select (IntOp.andi r4 (~~~r3)) 4#32
    (Scalar.select (IntOp.andi r3 (~~~r2)) 3#32 (Scalar.select (IntOp.andi r2 (~~~r1)) 2#32
    (Scalar.select e 0#32 (Scalar.select a 1#32 1000000#32))))))))) 8#32) 7#32

/-- The bit of `n ≤ s`. -/
abbrev upTo (n s : ℕ) : BitVec 1 := BitVec.ofBool (decide (n ≤ s))

/-- Where the first set bit is the one of `n` steps, the word is `n`, and seven beyond seven. -/
theorem bucketBits_upTo : ∀ (n : Fin 10) (a : BitVec 1), (upTo n 1 = 1#1 ↔ a = 1#1 ∨ upTo n 0 = 1#1) →
    bucketBits (upTo n 0) a (upTo n 1) (upTo n 2) (upTo n 3) (upTo n 4) (upTo n 5) (upTo n 6) (upTo n 7) (upTo n 8)
      = BitVec.ofNat 32 (min n.val 7) := by
  decide +kernel

/-- A rising family of statements holds from some number on. -/
theorem first_of_rising (P : ℕ → Prop) (hP : ∀ s, P s → P (s + 1)) (N : ℕ) : ∃ n ≤ N, ∀ s < N, n ≤ s ↔ P s := by
  have hle : ∀ s d, P s → P (s + d) := fun s d h => by
    induction d with
    | zero => exact h
    | succ d ih => exact hP _ ih
  induction N with
  | zero => exact ⟨0, le_rfl, fun s hs => absurd hs (Nat.not_lt_zero s)⟩
  | succ N ih =>
    obtain ⟨n, hn, h⟩ := ih
    by_cases hlt : n < N
    · refine ⟨n, by omega, fun s hs => ?_⟩
      rcases Nat.lt_succ_iff_lt_or_eq.mp hs with hs | rfl
      · exact h s hs
      · have := hle n (s - n) ((h n hlt).mp le_rfl)
        rw [Nat.add_sub_cancel' hn] at this
        exact iff_of_true hn this
    · have hnN : n = N := by omega
      subst hnN
      by_cases hp : P n
      · refine ⟨n, by omega, fun s hs => ?_⟩
        rcases Nat.lt_succ_iff_lt_or_eq.mp hs with hs | rfl
        · exact h s hs
        · exact iff_of_true le_rfl hp
      · refine ⟨n + 1, le_rfl, fun s hs => ?_⟩
        rcases Nat.lt_succ_iff_lt_or_eq.mp hs with hs | rfl
        · exact iff_of_false (by omega) (fun hp => absurd ((h s hs).mpr hp) (by omega))
        · exact iff_of_false (by omega) hp

/-- A bit that says `P s`, where `P` holds from `n` on. -/
theorem bit_upTo {u : BitVec 1} {P : Prop} {n s : ℕ} (h : u = 1#1 ↔ P) (hn : n ≤ s ↔ P) : u = upTo n s := by
  by_cases hp : n ≤ s
  · rw [h.mpr (hn.mp hp)]; simp [upTo, hp]
  · rw [(BitVec.eq_zero_or_eq_one u).resolve_right fun e => hp (hn.mpr (h.mp e))]; simp [upTo, hp]

variable (W : Valuation τ sig (Elt Ideal)) (f : Fin 8 → Fin 512 → Fin 512)

/-- The reference's bucket word at a pair, from the pair's bits. -/
theorem bucket_bits (b : Fin 8) (i j : Fin 512) : res_main_v110 W (ix3 b i j)
    = bucketBits (res_main_v39 W (ix2 i j)) (res_main_v43 W (ix3 b i j)) (res_main_v49 W (ix3 b i j)) (res_main_v55 W (ix3 b i j))
      (res_main_v63 W (ix3 b i j)) (res_main_v71 W (ix3 b i j)) (res_main_v79 W (ix3 b i j)) (res_main_v87 W (ix3 b i j))
      (res_main_v95 W (ix3 b i j)) (grow (res_main_v95 W) (res_main_v43 W) (ix3 b i j)) := by
  unfold res_main_v110 bucketBits
  change minsi (minsi (select (andi (grow (res_main_v95 W) (res_main_v43 W)) _) _ _) _) _ (ix3 b i j) = _
  clean_types
  pointwise
  rfl

/-- The bucket word is the pair's bucket. -/
theorem bucket_spec (hf : ∀ b k, parents W (ix2 b k) = BitVec.ofNat 32 (f b k).val) (b : Fin 8) (i j : Fin 512) :
    ∃ n : Fin 8, res_main_v110 W (ix3 b i j) = BitVec.ofNat 32 n.val ∧ Tree.IsBucket (f b) i j n.val := by
  obtain ⟨n, hn9, h⟩ := first_of_rising (fun s => Tree.Near (f b) s i j) (fun s => Tree.near_succ (f b)) 9
  have h1 := near_one W f hf b i j
  have e0 := bit_upTo (diag_iff W i j) (h 0 (by omega))
  have e1 := bit_upTo h1 (h 1 (by omega))
  have ha : upTo n 1 = 1#1 ↔ res_main_v43 W (ix3 b i j) = 1#1 ∨ upTo n 0 = 1#1 := by
    rw [← e0, ← e1, h1, diag_iff, joined_iff W f hf]
    simp [Tree.Near, or_comm]
  have hw := bucketBits_upTo ⟨n, by omega⟩ _ ha
  refine ⟨⟨min n 7, by omega⟩, ?_, Nat.min_le_right _ _, fun s hs => ?_⟩
  · rw [bucket_bits, e0, e1, bit_upTo (near_two W f hf b i j) (h 2 (by omega)), bit_upTo (near_three W f hf b i j) (h 3 (by omega)),
      bit_upTo (near_four W f hf b i j) (h 4 (by omega)), bit_upTo (near_five W f hf b i j) (h 5 (by omega)),
      bit_upTo (near_six W f hf b i j) (h 6 (by omega)), bit_upTo (near_seven W f hf b i j) (h 7 (by omega)),
      bit_upTo (near_grow W f hf (res_main_v95 W) 7 (near_seven W f hf) b i j) (h 8 (by omega))]
    exact hw
  · rw [← h s (by omega)]
    show min n 7 ≤ s ↔ n ≤ s
    omega

/-- The reference's result, as its run states it, of the validity mask, the bias table and the bucket words. -/
def output (a1 : IVec S8x512 1) (a2 : FVec Ideal S16x8 .f32) (w : IVec S8x512x512 32) : FVec Ideal S8x16x512x512 .f32 :=
  select (broadcastInDim S8x16x512x512 ![0, 1, 2, 3] bcast_S8x1x512x1_S8x16x512x512_0_1_2_3 (broadcastInDim S8x1x512x1 ![0, 2] bcast_S8x512_S8x1x512x1_0_2 a1))
    (select (broadcastInDim S8x16x512x512 ![0, 1, 2, 3] bcast_S8x1x1x512_S8x16x512x512_0_1_2_3 (broadcastInDim S8x1x1x512 ![0, 3] bcast_S8x512_S8x1x1x512_0_3 a1))
      (transpose S8x16x512x512 [1, 0, 2, 3] (Host.gather gather_S16x8_S8x512x512x1_S16x8x512x512_0_1_n_n_1_3_161 a2
        (broadcastInDim S8x512x512x1 ![0, 1, 2] bcast_S8x512x512_S8x512x512x1_0_1_2
          (select (cmpi .slt w (broadcastInDim S8x512x512 ![] bcast_S_S8x512x512 (constantI S_ 32 0#32)))
            (addi w (broadcastInDim S8x512x512 ![] bcast_S_S8x512x512 (constantI S_ 32 8#32))) w))) transposes_S16x8x512x512_S8x16x512x512_1_0_2_3)
      (broadcastInDim S8x16x512x512 ![] bcast_S_S8x16x512x512 (constant S_ .f32 0xFF7FFFFF#32)))
    (broadcastInDim S8x16x512x512 ![] bcast_S_S8x16x512x512 (constant S_ .f32 0xFF7FFFFF#32))

/-- Two nested choices with one alternative are one choice. -/
theorem select_both {α : Type} (u v : BitVec 1) (x y : α) :
    Scalar.select u (Scalar.select v x y) y = Scalar.select (IntOp.andi u v) x y := by
  rcases BitVec.eq_zero_or_eq_one u with rfl | rfl <;> rcases BitVec.eq_zero_or_eq_one v with rfl | rfl <;> rfl

/-- Where the bucket word is `n`, the result is head `h`'s bias at `n`, and the fill where a position is not valid. -/
theorem output_apply (a1 : IVec S8x512 1) (a2 : FVec Ideal S16x8 .f32) (w : IVec S8x512x512 32) (b : Fin 8) (h : Fin 16) (q k : Fin 512)
    (n : Fin 8) (hn : w (ix3 b q k) = BitVec.ofNat 32 n.val) : output a1 a2 w (ix4 b h q k)
      = Scalar.select (IntOp.andi (a1 (ix2 b q)) (a1 (ix2 b k))) (a2 (ix2 h n)) (FloatOps.ofBits (F := Ideal) .f32 0xFF7FFFFF#32) := by
  have hlt := n.isLt
  unfold output
  pointwise
  rw [gather_bias, select_both]
  pointwise
  congr 2
  refine congrArg _ (Fin.ext ?_)
  show min _ 7 = n.val
  rw [hn, unshifted n.val (by omega), StableHlo.Predicate.toInt_ofNat_small _ (by omega)]
  omega

end Cert.ReferenceIdeal.Bias

end
-- ==== Proof.Range.lean ====
/- The precondition, element by element: every parent is a position. -/
module

public import proofs.«01_k».proof.Defs
public import Idealize.ShloMosaic.Lib.ReduceAll
public import Idealize.ShloMosaic.Lib.Pointwise
public import Idealize.ShloMosaic.Lib.StableHlo.Predicate

@[expose] public section

set_option maxRecDepth 16384

noncomputable section

namespace Cert.Pre_parents_in_range

open Idealize.ShloMosaic

/-- The side conditions of the precondition's operations. -/
theorem holds : Facts := ⟨by decide, by decide, by decide⟩

/-- A word that is at least zero and below 512, signed, is below 512 as a number. -/
theorem lt_of_bits (w : BitVec 32) (h : IntOp.andi (IntOp.cmpi .sge w 0#32) (IntOp.cmpi .slt w 512#32) = 1#1) : w.toNat < 512 := by
  have hu : ∀ u v : BitVec 1, IntOp.andi u v = 1#1 → u = 1#1 ∧ v = 1#1 := by decide
  obtain ⟨h0, h1⟩ := hu _ _ h
  simp only [IntOp.cmpi, StableHlo.Predicate.ofBool_eq_one_iff] at h0 h1
  rw [BitVec.sle_iff_toInt_le] at h0
  rw [BitVec.slt_iff_toInt_lt] at h1
  have e0 : (0#32).toInt = 0 := by decide
  have e1 : (512#32).toInt = 512 := by decide
  rw [e0] at h0
  rw [e1] at h1
  have := BitVec.toInt_eq_toNat_of_msb (x := w) (by rw [BitVec.msb_eq_false_iff_two_mul_lt]; have := BitVec.toInt_eq_toNat_cond w; split at this <;> omega)
  omega

variable [Facts]

/-- Under the precondition the parents are a map on positions, row by row. -/
theorem parents_of {F : FTy → Type} [FloatOps F] (a0 : IVec S8x512 32) (a1 : IVec S8x512 1) (a2 : FVec F S16x8 .f32)
    (h : fn a0 a1 a2 = fun _ => 1#1) :
    ∃ f : Fin 8 → Fin 512 → Fin 512, ∀ b k, a0 (ix2 b k) = BitVec.ofNat 32 (f b k).val := by
  have hlt : ∀ (b : Fin 8) (k : Fin 512), (a0 (ix2 b k)).toNat < 512 := fun b k => by
    haveI : Subsingleton S_.Idx := ⟨fun x y => funext fun d => d.elim0⟩
    have := Host.reduce_andi_all _ _ _ _ ix0 (congrFun h ix0) (ix2 b k)
    refine lt_of_bits _ ?_
    exact this
  exact ⟨fun b k => ⟨_, hlt b k⟩, fun b k => (BitVec.ofNat_toNat 32 _ |>.trans (BitVec.setWidth_eq _)).symm⟩

end Cert.Pre_parents_in_range

end
-- ==== Proof.Equation.lean ====
/- The equation: kernel and reference compute one function of parents, validity mask and bias. -/
module

public import proofs.«01_k».proof.Proof.Array
public import proofs.«01_k».proof.Proof.Steps
public import proofs.«01_k».proof.Proof.RefValue
public import proofs.«01_k».proof.Proof.Range
public import Idealize.ShloMosaic.Lib.Quiescent

@[expose] public section

set_option maxRecDepth 16384

noncomputable section

namespace Cert.Equation

open Idealize.ShloMosaic Idealize.ShloMosaic.TcCoe Idealize.SL.Sem

/-- What the reference's result is, of the three arguments, is what the kernel's result array holds, where the parents are
    positions: at every pair the two take the same bucket. -/
theorem output_eq_result (W : Valuation Cert.ReferenceIdeal.τ Cert.ReferenceIdeal.sig (Elt Ideal)) (f : Fin 8 → Fin 512 → Fin 512)
    (hf : ∀ b k, Cert.ReferenceIdeal.Bias.parents W (ix2 b k) = BitVec.ofNat 32 (f b k).val)
    (a1 : IVec Cert.ReferenceIdeal.S8x512 1) (a2 : FVec Ideal Cert.ReferenceIdeal.S16x8 .f32) :
    Cert.ReferenceIdeal.Bias.output a1 a2 (Cert.ReferenceIdeal.Value.res_main_v110 W)
      = Cert.KernelIdeal.Bias.result (F := Ideal) (Cert.ReferenceIdeal.Bias.parents W) a1 a2 := by
  funext y
  idx_vars y
  obtain ⟨n, hn, hb⟩ := Cert.ReferenceIdeal.Bias.bucket_spec W f hf y0 y2 y3
  rw [Cert.ReferenceIdeal.Bias.output_apply a1 a2 _ y0 y1 y2 y3 n hn]
  exact (Cert.KernelIdeal.Bias.outElt_eq (f y0) (Cert.ReferenceIdeal.Bias.parents W) a1 a2 y0 (hf y0) y1 y2 y3 n hb).symm

/-- The reference runs, leaves its arguments as they were, and leaves every counter at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run Cert.ReferenceIdeal.defs _ _).mono (fun r h => ⟨fun c => (h c).2, sem_eq_zero_of_no_sems rfl r.2⟩)
    (Cert.ReferenceIdeal.Value.run m ρ)

/-- THE ALGEBRAIC CLAIM: from one set of arguments with parents in range, both run and end with one result. -/
theorem algebraic [hPre : Cert.Pre_parents_in_range.Facts] :
    Cert.algebraic_KernelIdeal_ReferenceIdeal_pre_parents_in_range := by
  intro m g m' g' hpre hargs
  refine ⟨_, Cert.KernelIdeal.Bias.value m g, (θ_run Cert.ReferenceIdeal.defs _ _).mono (fun r h c => ⟨(h c).1.trans ?_, (h c).2⟩)
    (Cert.ReferenceIdeal.Value.run m' g')⟩
  obtain ⟨e0, e1, e2⟩ := hargs c
  obtain ⟨f, hf⟩ := Cert.Pre_parents_in_range.parents_of _ _ _ (hpre c)
  rw [← e0] at hf
  rw [← e0, ← e1, ← e2]
  exact output_eq_result (StableHlo.launchContents m' c) f hf _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Words
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All seven parts of the claim. -/
theorem claim : Cert.Claim := ⟨Cert.Kernel.Gen.facts, Cert.KernelIdeal.Gen.facts, Cert.ReferenceIdeal.Gen.facts, Cert.Pre_parents_in_range.holds,
  fun m ρ _ => Cert.Kernel.Bias.frame m ρ,
  fun m ρ _ => Cert.KernelIdeal.Bias.frame m ρ,
  fun m ρ _ => Cert.KernelIdeal.Bias.frame m ρ,
  fun m ρ _ => Cert.Equation.reference_frame m ρ,
  fun m ρ _ => Cert.Equation.reference_frame m ρ,
  trivial,
  Cert.Equation.algebraic (hPre := Cert.Pre_parents_in_range.holds)⟩

end Cert.Proof

end
